-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_per_expert_KernelIdeal [hPre_few_per_expert_KernelIdeal : Cert.Pre_few_per_expert_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_few_per_expert_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_per_expert_ReferenceIdeal [hPre_few_per_expert_ReferenceIdeal : Cert.Pre_few_per_expert_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_per_expert_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_few_per_expert_KernelIdeal [hKernelIdeal : Cert.KernelIdeal.Facts] [hPre_few_per_expert_KernelIdeal : Cert.Pre_few_per_expert_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_per_expert_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_few_per_expert_ReferenceIdeal [hReferenceIdeal : Cert.ReferenceIdeal.Facts] [hPre_few_per_expert_ReferenceIdeal : Cert.Pre_few_per_expert_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_per_expert_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_few_per_expert_KernelIdeal [hKernelIdeal : Cert.KernelIdeal.Facts] [hReferenceIdeal : Cert.ReferenceIdeal.Facts] [hPre_few_per_expert_KernelIdeal : Cert.Pre_few_per_expert_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_per_expert_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![32768, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_few_per_expert_KernelIdeal : Cert.Pre_few_per_expert_KernelIdeal.Facts) (hPre_few_per_expert_ReferenceIdeal : Cert.Pre_few_per_expert_ReferenceIdeal.Facts),
    quiescent_Kernel (hKernel := hKernel)
    ∧ quiescent_KernelIdeal (hKernelIdeal := hKernelIdeal)
    ∧ quiescent_KernelIdeal_pre_few_per_expert_KernelIdeal (hKernelIdeal := hKernelIdeal) (hPre_few_per_expert_KernelIdeal := hPre_few_per_expert_KernelIdeal)
    ∧ quiescent_ReferenceIdeal (hReferenceIdeal := hReferenceIdeal)
    ∧ quiescent_ReferenceIdeal_pre_few_per_expert_ReferenceIdeal (hReferenceIdeal := hReferenceIdeal) (hPre_few_per_expert_ReferenceIdeal := hPre_few_per_expert_ReferenceIdeal)
    ∧ preserves_Kernel_KernelIdeal
    ∧ algebraic_KernelIdeal_ReferenceIdeal_pre_few_per_expert_KernelIdeal (hKernelIdeal := hKernelIdeal) (hReferenceIdeal := hReferenceIdeal) (hPre_few_per_expert_KernelIdeal := hPre_few_per_expert_KernelIdeal)
-- ==== Pre_few_per_expert_KernelIdeal.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S128 : Shape := ⟨1, ![128]⟩
abbrev S1x128 : Shape := ⟨2, ![1, 128]⟩
abbrev S1024x128 : Shape := ⟨2, ![1024, 128]⟩
abbrev S_ : Shape := ⟨0, ![]⟩

class Facts : Prop where
  bcast_S128_S1x128_1 : S128.BroadcastsInDim S1x128 (![1] : Fin 1 → Fin S1x128.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  natLt_1_32 : 1 < 32
  bcast_S_S1024x1 : S_.BroadcastsInDim S1024x1 (![] : Fin 0 → Fin S1024x1.rank)
  reducesTo_S1024x1_S_d0_1 : S1024x1.ReducesTo [0, 1] S_
  h_S_ : 0 < S_.numel
  reducesTo_S1024x128_S128_d0 : S1024x128.ReducesTo [0] S128
  bcast_S_S128 : S_.BroadcastsInDim S128 (![] : Fin 0 → Fin S128.rank)
  reducesTo_S128_S_d0 : S128.ReducesTo [0] S_

variable [Facts]

def fn {F : FTy → Type} [FloatOps F] (main_arg0 : FVec F S1024x256 .bf16) (main_arg1 : FVec F S256x128 .bf16) (main_arg2 : IVec S1024x1 32) (main_arg3 : FVec F S4x256x512 .bf16) : IVec S_ 1 :=
  let main_v0 : IVec S128 32 := iotaInDim S128 32 0
  let main_v1 : IVec S1x128 32 := broadcastInDim S1x128 ![1] bcast_S128_S1x128_1 main_v0
  let main_v2 : IVec S1024x128 32 := broadcastInDim S1024x128 ![0, 1] bcast_S1024x1_S1024x128_0_1 main_arg2
  let main_v3 : IVec S1024x128 32 := broadcastInDim S1024x128 ![0, 1] bcast_S1x128_S1024x128_0_1 main_v1
  let main_v4 : IVec S1024x128 1 := cmpi .eq main_v2 main_v3
  let main_v5 : IVec S1024x128 32 := (extui 32 · natLt_1_32) main_v4
  let main_c : IVec S_ 32 := constantI S_ 32 0#32
  let main_v6 : IVec S1024x1 32 := broadcastInDim S1024x1 ![] bcast_S_S1024x1 main_c
  let main_v7 : IVec S1024x1 1 := cmpi .sge main_arg2 main_v6
  let main_c_0 : IVec S_ 32 := constantI S_ 32 128#32
  let main_v8 : IVec S1024x1 32 := broadcastInDim S1024x1 ![] bcast_S_S1024x1 main_c_0
  let main_v9 : IVec S1024x1 1 := cmpi .slt main_arg2 main_v8
  let main_v10 : IVec S1024x1 1 := andi main_v7 main_v9
  let main_c_1 : IVec S_ 1 := constantI S_ 1 1#1
  let main_v11 : IVec S_ 1 := (fun x v => Host.reduce IntOp.andi x v reducesTo_S1024x1_S_d0_1 h_S_) main_v10 main_c_1
  let main_c_2 : IVec S_ 32 := constantI S_ 32 0#32
  let main_v12 : IVec S128 32 := (fun x v => Host.reduce IntOp.addi x v reducesTo_S1024x128_S128_d0 h_S_) main_v5 main_c_2
  let main_c_3 : IVec S_ 32 := constantI S_ 32 40#32
  let main_v13 : IVec S128 32 := broadcastInDim S128 ![] bcast_S_S128 main_c_3
  let main_v14 : IVec S128 1 := cmpi .sle main_v12 main_v13
  let main_c_4 : IVec S_ 1 := constantI S_ 1 1#1
  let main_v15 : IVec S_ 1 := (fun x v => Host.reduce IntOp.andi x v reducesTo_S128_S_d0 h_S_) main_v14 main_c_4
  let main_v16 : IVec S_ 1 := andi main_v11 main_v15
  main_v16
-- ==== Pre_few_per_expert_ReferenceIdeal.lean ====
abbrev S32768x256 : Shape := ⟨2, ![32768, 256]⟩
abbrev S256x128 : Shape := ⟨2, ![256, 128]⟩
abbrev S32768x1 : Shape := ⟨2, ![32768, 1]⟩
abbrev S128x256x512 : Shape := ⟨3, ![128, 256, 512]⟩
abbrev S128 : Shape := ⟨1, ![128]⟩
abbrev S1x128 : Shape := ⟨2, ![1, 128]⟩
abbrev S32768x128 : Shape := ⟨2, ![32768, 128]⟩
abbrev S_ : Shape := ⟨0, ![]⟩

class Facts : Prop where
  bcast_S128_S1x128_1 : S128.BroadcastsInDim S1x128 (![1] : Fin 1 → Fin S1x128.rank)
  bcast_S32768x1_S32768x128_0_1 : S32768x1.BroadcastsInDim S32768x128 (![0, 1] : Fin 2 → Fin S32768x128.rank)
  bcast_S1x128_S32768x128_0_1 : S1x128.BroadcastsInDim S32768x128 (![0, 1] : Fin 2 → Fin S32768x128.rank)
  natLt_1_32 : 1 < 32
  bcast_S_S32768x1 : S_.BroadcastsInDim S32768x1 (![] : Fin 0 → Fin S32768x1.rank)
  reducesTo_S32768x1_S_d0_1 : S32768x1.ReducesTo [0, 1] S_
  h_S_ : 0 < S_.numel
  reducesTo_S32768x128_S128_d0 : S32768x128.ReducesTo [0] S128
  bcast_S_S128 : S_.BroadcastsInDim S128 (![] : Fin 0 → Fin S128.rank)
  reducesTo_S128_S_d0 : S128.ReducesTo [0] S_

variable [Facts]

def fn {F : FTy → Type} [FloatOps F] (main_arg0 : FVec F S32768x256 .bf16) (main_arg1 : FVec F S256x128 .bf16) (main_arg2 : IVec S32768x1 32) (main_arg3 : FVec F S128x256x512 .bf16) : IVec S_ 1 :=
  let main_v0 : IVec S128 32 := iotaInDim S128 32 0
  let main_v1 : IVec S1x128 32 := broadcastInDim S1x128 ![1] bcast_S128_S1x128_1 main_v0
  let main_v2 : IVec S32768x128 32 := broadcastInDim S32768x128 ![0, 1] bcast_S32768x1_S32768x128_0_1 main_arg2
  let main_v3 : IVec S32768x128 32 := broadcastInDim S32768x128 ![0, 1] bcast_S1x128_S32768x128_0_1 main_v1
  let main_v4 : IVec S32768x128 1 := cmpi .eq main_v2 main_v3
  let main_v5 : IVec S32768x128 32 := (extui 32 · natLt_1_32) main_v4
  let main_c : IVec S_ 32 := constantI S_ 32 0#32
  let main_v6 : IVec S32768x1 32 := broadcastInDim S32768x1 ![] bcast_S_S32768x1 main_c
  let main_v7 : IVec S32768x1 1 := cmpi .sge main_arg2 main_v6
  let main_c_0 : IVec S_ 32 := constantI S_ 32 128#32
  let main_v8 : IVec S32768x1 32 := broadcastInDim S32768x1 ![] bcast_S_S32768x1 main_c_0
  let main_v9 : IVec S32768x1 1 := cmpi .slt main_arg2 main_v8
  let main_v10 : IVec S32768x1 1 := andi main_v7 main_v9
  let main_c_1 : IVec S_ 1 := constantI S_ 1 1#1
  let main_v11 : IVec S_ 1 := (fun x v => Host.reduce IntOp.andi x v reducesTo_S32768x1_S_d0_1 h_S_) main_v10 main_c_1
  let main_c_2 : IVec S_ 32 := constantI S_ 32 0#32
  let main_v12 : IVec S128 32 := (fun x v => Host.reduce IntOp.addi x v reducesTo_S32768x128_S128_d0 h_S_) main_v5 main_c_2
  let main_c_3 : IVec S_ 32 := constantI S_ 32 40#32
  let main_v13 : IVec S128 32 := broadcastInDim S128 ![] bcast_S_S128 main_c_3
  let main_v14 : IVec S128 1 := cmpi .sle main_v12 main_v13
  let main_c_4 : IVec S_ 1 := constantI S_ 1 1#1
  let main_v15 : IVec S_ 1 := (fun x v => Host.reduce IntOp.andi x v reducesTo_S128_S_d0 h_S_) main_v14 main_c_4
  let main_v16 : IVec S_ 1 := andi main_v11 main_v15
  main_v16
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S1024x512 : Shape := ⟨2, ![1024, 512]⟩
abbrev S32x4x40x256 : Shape := ⟨4, ![32, 4, 40, 256]⟩
abbrev S32x4x40x512 : Shape := ⟨4, ![32, 4, 40, 512]⟩
abbrev S32x128 : Shape := ⟨2, ![32, 128]⟩
abbrev S31 : Shape := ⟨1, ![31]⟩
abbrev S1 : Shape := ⟨1, ![1]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S1024x1024 : Shape := ⟨2, ![1024, 1024]⟩
abbrev S1024 : Shape := ⟨1, ![1024]⟩
abbrev S5120x1024 : Shape := ⟨2, ![5120, 1024]⟩
abbrev S5120x256 : Shape := ⟨2, ![5120, 256]⟩
abbrev S1x4x40x256 : Shape := ⟨4, ![1, 4, 40, 256]⟩
abbrev S4x40x256 : Shape := ⟨3, ![4, 40, 256]⟩
abbrev S31x128 : Shape := ⟨2, ![31, 128]⟩
abbrev S31x4x40x256 : Shape := ⟨4, ![31, 4, 40, 256]⟩
abbrev S32x1x40x256 : Shape := ⟨4, ![32, 1, 40, 256]⟩
abbrev S32x40x256 : Shape := ⟨3, ![32, 40, 256]⟩
abbrev S1280x256 : Shape := ⟨2, ![1280, 256]⟩
abbrev S1x256x512 : Shape := ⟨3, ![1, 256, 512]⟩
abbrev S256x512 : Shape := ⟨2, ![256, 512]⟩
abbrev S1280x512 : Shape := ⟨2, ![1280, 512]⟩
abbrev S32x40x512 : Shape := ⟨3, ![32, 40, 512]⟩
abbrev S32x1x40x512 : Shape := ⟨4, ![32, 1, 40, 512]⟩
abbrev S1x4x40x512 : Shape := ⟨4, ![1, 4, 40, 512]⟩
abbrev S4x40x512 : Shape := ⟨3, ![4, 40, 512]⟩
abbrev S31x4x40x512 : Shape := ⟨4, ![31, 4, 40, 512]⟩
abbrev S1024x5120 : Shape := ⟨2, ![1024, 5120]⟩
abbrev S5120x512 : Shape := ⟨2, ![5120, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S32x4x40x256, .bf16⟩
  | .local _ .vmem, ⟨5, _⟩ => ⟨S32x4x40x256, .bf16⟩
  | .local _ .vmem, ⟨6, _⟩ => ⟨S32x4x40x512, .bf16⟩
  | .local _ .vmem, ⟨7, _⟩ => ⟨S32x4x40x512, .bf16⟩
  | .local _ .vmem, ⟨8, _⟩ => ⟨S32x128, .i32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c0_i32 : BitVec 32 := 0#32
  let v5 : BitVec 32 := Scalar.addi v4 c0_i32
  let c32_i32_1 : BitVec 32 := 32#32
  let v6 : BitVec 32 := Scalar.remsi v5 c32_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v9 : BitVec 32 := Scalar.addi v2 c1_i32_5
  let c1_i32_6 : BitVec 32 := 1#32
  let v10 : BitVec 32 := Scalar.addi v9 c1_i32_6
  let c32_i32_7 : BitVec 32 := 32#32
  let v11 : BitVec 32 := Scalar.remsi v10 c32_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v14 : BitVec 32 := Scalar.addi v2 c1_i32_11
  let c2_i32 : BitVec 32 := 2#32
  let v15 : BitVec 32 := Scalar.addi v14 c2_i32
  let c32_i32_12 : BitVec 32 := 32#32
  let v16 : BitVec 32 := Scalar.remsi v15 c32_i32_12
  let c1_i32_14 : BitVec 32 := 1#32
  let v17 : BitVec 32 := Scalar.muli v16 c1_i32_14
  let v18 : BitVec 32 := Scalar.addi c0_i32_15 v17
  v18.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v19 : BitVec 32 := Scalar.addi v2 c1_i32_16
  let c3_i32 : BitVec 32 := 3#32
  let v20 : BitVec 32 := Scalar.addi v19 c3_i32
  let c32_i32_17 : BitVec 32 := 32#32
  let v21 : BitVec 32 := Scalar.remsi v20 c32_i32_17
  let c1_i32_19 : BitVec 32 := 1#32
  let v22 : BitVec 32 := Scalar.muli v21 c1_i32_19
  let v23 : BitVec 32 := Scalar.addi c0_i32_20 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_21 : BitVec 32 := 1#32
  let v24 : BitVec 32 := Scalar.addi v2 c1_i32_21
  let c4_i32 : BitVec 32 := 4#32
  let v25 : BitVec 32 := Scalar.addi v24 c4_i32
  let c32_i32_22 : BitVec 32 := 32#32
  let v26 : BitVec 32 := Scalar.remsi v25 c32_i32_22
  let c1_i32_24 : BitVec 32 := 1#32
  let v27 : BitVec 32 := Scalar.muli v26 c1_i32_24
  let v28 : BitVec 32 := Scalar.addi c0_i32_25 v27
  v28.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_26 : BitVec 32 := 1#32
  let v29 : BitVec 32 := Scalar.addi v2 c1_i32_26
  let c5_i32 : BitVec 32 := 5#32
  let v30 : BitVec 32 := Scalar.addi v29 c5_i32
  let c32_i32_27 : BitVec 32 := 32#32
  let v31 : BitVec 32 := Scalar.remsi v30 c32_i32_27
  let c1_i32_29 : BitVec 32 := 1#32
  let v32 : BitVec 32 := Scalar.muli v31 c1_i32_29
  let v33 : BitVec 32 := Scalar.addi c0_i32_30 v32
  v33.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v34 : BitVec 32 := Scalar.addi v2 c1_i32_31
  let c6_i32 : BitVec 32 := 6#32
  let v35 : BitVec 32 := Scalar.addi v34 c6_i32
  let c32_i32_32 : BitVec 32 := 32#32
  let v36 : BitVec 32 := Scalar.remsi v35 c32_i32_32
  let c1_i32_34 : BitVec 32 := 1#32
  let v37 : BitVec 32 := Scalar.muli v36 c1_i32_34
  let v38 : BitVec 32 := Scalar.addi c0_i32_35 v37
  v38.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_36 : BitVec 32 := 1#32
  let v39 : BitVec 32 := Scalar.addi v2 c1_i32_36
  let c7_i32 : BitVec 32 := 7#32
  let v40 : BitVec 32 := Scalar.addi v39 c7_i32
  let c32_i32_37 : BitVec 32 := 32#32
  let v41 : BitVec 32 := Scalar.remsi v40 c32_i32_37
  let c1_i32_39 : BitVec 32 := 1#32
  let v42 : BitVec 32 := Scalar.muli v41 c1_i32_39
  let v43 : BitVec 32 := Scalar.addi c0_i32_40 v42
  v43.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let v44 : BitVec 32 := Scalar.addi v2 c1_i32_41
  let c8_i32 : BitVec 32 := 8#32
  let v45 : BitVec 32 := Scalar.addi v44 c8_i32
  let c32_i32_42 : BitVec 32 := 32#32
  let v46 : BitVec 32 := Scalar.remsi v45 c32_i32_42
  let c1_i32_44 : BitVec 32 := 1#32
  let v47 : BitVec 32 := Scalar.muli v46 c1_i32_44
  let v48 : BitVec 32 := Scalar.addi c0_i32_45 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_46 : BitVec 32 := 1#32
  let v49 : BitVec 32 := Scalar.addi v2 c1_i32_46
  let c9_i32 : BitVec 32 := 9#32
  let v50 : BitVec 32 := Scalar.addi v49 c9_i32
  let c32_i32_47 : BitVec 32 := 32#32
  let v51 : BitVec 32 := Scalar.remsi v50 c32_i32_47
  let c1_i32_49 : BitVec 32 := 1#32
  let v52 : BitVec 32 := Scalar.muli v51 c1_i32_49
  let v53 : BitVec 32 := Scalar.addi c0_i32_50 v52
  v53.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v54 : BitVec 32 := Scalar.addi v2 c1_i32_51
  let c10_i32 : BitVec 32 := 10#32
  let v55 : BitVec 32 := Scalar.addi v54 c10_i32
  let c32_i32_52 : BitVec 32 := 32#32
  let v56 : BitVec 32 := Scalar.remsi v55 c32_i32_52
  let c1_i32_54 : BitVec 32 := 1#32
  let v57 : BitVec 32 := Scalar.muli v56 c1_i32_54
  let v58 : BitVec 32 := Scalar.addi c0_i32_55 v57
  v58.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_56 : BitVec 32 := 1#32
  let v59 : BitVec 32 := Scalar.addi v2 c1_i32_56
  let c11_i32 : BitVec 32 := 11#32
  let v60 : BitVec 32 := Scalar.addi v59 c11_i32
  let c32_i32_57 : BitVec 32 := 32#32
  let v61 : BitVec 32 := Scalar.remsi v60 c32_i32_57
  let c1_i32_59 : BitVec 32 := 1#32
  let v62 : BitVec 32 := Scalar.muli v61 c1_i32_59
  let v63 : BitVec 32 := Scalar.addi c0_i32_60 v62
  v63.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_61 : BitVec 32 := 1#32
  let v64 : BitVec 32 := Scalar.addi v2 c1_i32_61
  let c12_i32 : BitVec 32 := 12#32
  let v65 : BitVec 32 := Scalar.addi v64 c12_i32
  let c32_i32_62 : BitVec 32 := 32#32
  let v66 : BitVec 32 := Scalar.remsi v65 c32_i32_62
  let c1_i32_64 : BitVec 32 := 1#32
  let v67 : BitVec 32 := Scalar.muli v66 c1_i32_64
  let v68 : BitVec 32 := Scalar.addi c0_i32_65 v67
  v68.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_66 : BitVec 32 := 1#32
  let v69 : BitVec 32 := Scalar.addi v2 c1_i32_66
  let c13_i32 : BitVec 32 := 13#32
  let v70 : BitVec 32 := Scalar.addi v69 c13_i32
  let c32_i32_67 : BitVec 32 := 32#32
  let v71 : BitVec 32 := Scalar.remsi v70 c32_i32_67
  let c1_i32_69 : BitVec 32 := 1#32
  let v72 : BitVec 32 := Scalar.muli v71 c1_i32_69
  let v73 : BitVec 32 := Scalar.addi c0_i32_70 v72
  v73.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_71 : BitVec 32 := 1#32
  let v74 : BitVec 32 := Scalar.addi v2 c1_i32_71
  let c14_i32 : BitVec 32 := 14#32
  let v75 : BitVec 32 := Scalar.addi v74 c14_i32
  let c32_i32_72 : BitVec 32 := 32#32
  let v76 : BitVec 32 := Scalar.remsi v75 c32_i32_72
  let c1_i32_74 : BitVec 32 := 1#32
  let v77 : BitVec 32 := Scalar.muli v76 c1_i32_74
  let v78 : BitVec 32 := Scalar.addi c0_i32_75 v77
  v78.toNat
def k0_dev16 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v79 : BitVec 32 := Scalar.addi v2 c1_i32_76
  let c15_i32 : BitVec 32 := 15#32
  let v80 : BitVec 32 := Scalar.addi v79 c15_i32
  let c32_i32_77 : BitVec 32 := 32#32
  let v81 : BitVec 32 := Scalar.remsi v80 c32_i32_77
  let c1_i32_79 : BitVec 32 := 1#32
  let v82 : BitVec 32 := Scalar.muli v81 c1_i32_79
  let v83 : BitVec 32 := Scalar.addi c0_i32_80 v82
  v83.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v84 : BitVec 32 := Scalar.addi v2 c1_i32_81
  let c16_i32 : BitVec 32 := 16#32
  let v85 : BitVec 32 := Scalar.addi v84 c16_i32
  let c32_i32_82 : BitVec 32 := 32#32
  let v86 : BitVec 32 := Scalar.remsi v85 c32_i32_82
  let c1_i32_84 : BitVec 32 := 1#32
  let v87 : BitVec 32 := Scalar.muli v86 c1_i32_84
  let v88 : BitVec 32 := Scalar.addi c0_i32_85 v87
  v88.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_86 : BitVec 32 := 1#32
  let v89 : BitVec 32 := Scalar.addi v2 c1_i32_86
  let c17_i32 : BitVec 32 := 17#32
  let v90 : BitVec 32 := Scalar.addi v89 c17_i32
  let c32_i32_87 : BitVec 32 := 32#32
  let v91 : BitVec 32 := Scalar.remsi v90 c32_i32_87
  let c1_i32_89 : BitVec 32 := 1#32
  let v92 : BitVec 32 := Scalar.muli v91 c1_i32_89
  let v93 : BitVec 32 := Scalar.addi c0_i32_90 v92
  v93.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_91 : BitVec 32 := 1#32
  let v94 : BitVec 32 := Scalar.addi v2 c1_i32_91
  let c18_i32 : BitVec 32 := 18#32
  let v95 : BitVec 32 := Scalar.addi v94 c18_i32
  let c32_i32_92 : BitVec 32 := 32#32
  let v96 : BitVec 32 := Scalar.remsi v95 c32_i32_92
  let c1_i32_94 : BitVec 32 := 1#32
  let v97 : BitVec 32 := Scalar.muli v96 c1_i32_94
  let v98 : BitVec 32 := Scalar.addi c0_i32_95 v97
  v98.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v99 : BitVec 32 := Scalar.addi v2 c1_i32_96
  let c19_i32 : BitVec 32 := 19#32
  let v100 : BitVec 32 := Scalar.addi v99 c19_i32
  let c32_i32_97 : BitVec 32 := 32#32
  let v101 : BitVec 32 := Scalar.remsi v100 c32_i32_97
  let c1_i32_99 : BitVec 32 := 1#32
  let v102 : BitVec 32 := Scalar.muli v101 c1_i32_99
  let v103 : BitVec 32 := Scalar.addi c0_i32_100 v102
  v103.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_101 : BitVec 32 := 1#32
  let v104 : BitVec 32 := Scalar.addi v2 c1_i32_101
  let c20_i32 : BitVec 32 := 20#32
  let v105 : BitVec 32 := Scalar.addi v104 c20_i32
  let c32_i32_102 : BitVec 32 := 32#32
  let v106 : BitVec 32 := Scalar.remsi v105 c32_i32_102
  let c1_i32_104 : BitVec 32 := 1#32
  let v107 : BitVec 32 := Scalar.muli v106 c1_i32_104
  let v108 : BitVec 32 := Scalar.addi c0_i32_105 v107
  v108.toNat
def k0_dev22 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_106 : BitVec 32 := 1#32
  let v109 : BitVec 32 := Scalar.addi v2 c1_i32_106
  let c21_i32 : BitVec 32 := 21#32
  let v110 : BitVec 32 := Scalar.addi v109 c21_i32
  let c32_i32_107 : BitVec 32 := 32#32
  let v111 : BitVec 32 := Scalar.remsi v110 c32_i32_107
  let c1_i32_109 : BitVec 32 := 1#32
  let v112 : BitVec 32 := Scalar.muli v111 c1_i32_109
  let v113 : BitVec 32 := Scalar.addi c0_i32_110 v112
  v113.toNat
def k0_dev23 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_111 : BitVec 32 := 1#32
  let v114 : BitVec 32 := Scalar.addi v2 c1_i32_111
  let c22_i32 : BitVec 32 := 22#32
  let v115 : BitVec 32 := Scalar.addi v114 c22_i32
  let c32_i32_112 : BitVec 32 := 32#32
  let v116 : BitVec 32 := Scalar.remsi v115 c32_i32_112
  let c1_i32_114 : BitVec 32 := 1#32
  let v117 : BitVec 32 := Scalar.muli v116 c1_i32_114
  let v118 : BitVec 32 := Scalar.addi c0_i32_115 v117
  v118.toNat
def k0_dev24 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_116 : BitVec 32 := 1#32
  let v119 : BitVec 32 := Scalar.addi v2 c1_i32_116
  let c23_i32 : BitVec 32 := 23#32
  let v120 : BitVec 32 := Scalar.addi v119 c23_i32
  let c32_i32_117 : BitVec 32 := 32#32
  let v121 : BitVec 32 := Scalar.remsi v120 c32_i32_117
  let c1_i32_119 : BitVec 32 := 1#32
  let v122 : BitVec 32 := Scalar.muli v121 c1_i32_119
  let v123 : BitVec 32 := Scalar.addi c0_i32_120 v122
  v123.toNat
def k0_dev25 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_121 : BitVec 32 := 1#32
  let v124 : BitVec 32 := Scalar.addi v2 c1_i32_121
  let c24_i32 : BitVec 32 := 24#32
  let v125 : BitVec 32 := Scalar.addi v124 c24_i32
  let c32_i32_122 : BitVec 32 := 32#32
  let v126 : BitVec 32 := Scalar.remsi v125 c32_i32_122
  let c1_i32_124 : BitVec 32 := 1#32
  let v127 : BitVec 32 := Scalar.muli v126 c1_i32_124
  let v128 : BitVec 32 := Scalar.addi c0_i32_125 v127
  v128.toNat
def k0_dev26 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_126 : BitVec 32 := 1#32
  let v129 : BitVec 32 := Scalar.addi v2 c1_i32_126
  let c25_i32 : BitVec 32 := 25#32
  let v130 : BitVec 32 := Scalar.addi v129 c25_i32
  let c32_i32_127 : BitVec 32 := 32#32
  let v131 : BitVec 32 := Scalar.remsi v130 c32_i32_127
  let c1_i32_129 : BitVec 32 := 1#32
  let v132 : BitVec 32 := Scalar.muli v131 c1_i32_129
  let v133 : BitVec 32 := Scalar.addi c0_i32_130 v132
  v133.toNat
def k0_dev27 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v134 : BitVec 32 := Scalar.addi v2 c1_i32_131
  let c26_i32 : BitVec 32 := 26#32
  let v135 : BitVec 32 := Scalar.addi v134 c26_i32
  let c32_i32_132 : BitVec 32 := 32#32
  let v136 : BitVec 32 := Scalar.remsi v135 c32_i32_132
  let c1_i32_134 : BitVec 32 := 1#32
  let v137 : BitVec 32 := Scalar.muli v136 c1_i32_134
  let v138 : BitVec 32 := Scalar.addi c0_i32_135 v137
  v138.toNat
def k0_dev28 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v139 : BitVec 32 := Scalar.addi v2 c1_i32_136
  let c27_i32 : BitVec 32 := 27#32
  let v140 : BitVec 32 := Scalar.addi v139 c27_i32
  let c32_i32_137 : BitVec 32 := 32#32
  let v141 : BitVec 32 := Scalar.remsi v140 c32_i32_137
  let c1_i32_139 : BitVec 32 := 1#32
  let v142 : BitVec 32 := Scalar.muli v141 c1_i32_139
  let v143 : BitVec 32 := Scalar.addi c0_i32_140 v142
  v143.toNat
def k0_dev29 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_141 : BitVec 32 := 1#32
  let v144 : BitVec 32 := Scalar.addi v2 c1_i32_141
  let c28_i32 : BitVec 32 := 28#32
  let v145 : BitVec 32 := Scalar.addi v144 c28_i32
  let c32_i32_142 : BitVec 32 := 32#32
  let v146 : BitVec 32 := Scalar.remsi v145 c32_i32_142
  let c1_i32_144 : BitVec 32 := 1#32
  let v147 : BitVec 32 := Scalar.muli v146 c1_i32_144
  let v148 : BitVec 32 := Scalar.addi c0_i32_145 v147
  v148.toNat
def k0_dev30 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v149 : BitVec 32 := Scalar.addi v2 c1_i32_146
  let c29_i32 : BitVec 32 := 29#32
  let v150 : BitVec 32 := Scalar.addi v149 c29_i32
  let c32_i32_147 : BitVec 32 := 32#32
  let v151 : BitVec 32 := Scalar.remsi v150 c32_i32_147
  let c1_i32_149 : BitVec 32 := 1#32
  let v152 : BitVec 32 := Scalar.muli v151 c1_i32_149
  let v153 : BitVec 32 := Scalar.addi c0_i32_150 v152
  v153.toNat
def k0_dev31 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_151 : BitVec 32 := 1#32
  let v154 : BitVec 32 := Scalar.addi v2 c1_i32_151
  let c30_i32 : BitVec 32 := 30#32
  let v155 : BitVec 32 := Scalar.addi v154 c30_i32
  let c32_i32_152 : BitVec 32 := 32#32
  let v156 : BitVec 32 := Scalar.remsi v155 c32_i32_152
  let c1_i32_154 : BitVec 32 := 1#32
  let v157 : BitVec 32 := Scalar.muli v156 c1_i32_154
  let v158 : BitVec 32 := Scalar.addi c0_i32_155 v157
  v158.toNat
def k0_dev32 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_160 : BitVec 32 := 1#32
  let v173 : BitVec 32 := Scalar.addi v2 c1_i32_160
  let c0_i32_161 : BitVec 32 := 0#32
  let v174 : BitVec 32 := Scalar.addi v173 c0_i32_161
  let c32_i32_162 : BitVec 32 := 32#32
  let v175 : BitVec 32 := Scalar.remsi v174 c32_i32_162
  let c1_i32_257 : BitVec 32 := 1#32
  let v266 : BitVec 32 := Scalar.muli v175 c1_i32_257
  let v267 : BitVec 32 := Scalar.addi c0_i32_258 v266
  v267.toNat
def k0_dev33 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_163 : BitVec 32 := 1#32
  let v176 : BitVec 32 := Scalar.addi v2 c1_i32_163
  let c1_i32_164 : BitVec 32 := 1#32
  let v177 : BitVec 32 := Scalar.addi v176 c1_i32_164
  let c32_i32_165 : BitVec 32 := 32#32
  let v178 : BitVec 32 := Scalar.remsi v177 c32_i32_165
  let c1_i32_265 : BitVec 32 := 1#32
  let v276 : BitVec 32 := Scalar.muli v178 c1_i32_265
  let v277 : BitVec 32 := Scalar.addi c0_i32_266 v276
  v277.toNat
def k0_dev34 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v179 : BitVec 32 := Scalar.addi v2 c1_i32_166
  let c2_i32_167 : BitVec 32 := 2#32
  let v180 : BitVec 32 := Scalar.addi v179 c2_i32_167
  let c32_i32_168 : BitVec 32 := 32#32
  let v181 : BitVec 32 := Scalar.remsi v180 c32_i32_168
  let c1_i32_273 : BitVec 32 := 1#32
  let v286 : BitVec 32 := Scalar.muli v181 c1_i32_273
  let v287 : BitVec 32 := Scalar.addi c0_i32_274 v286
  v287.toNat
def k0_dev35 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_169 : BitVec 32 := 1#32
  let v182 : BitVec 32 := Scalar.addi v2 c1_i32_169
  let c3_i32_170 : BitVec 32 := 3#32
  let v183 : BitVec 32 := Scalar.addi v182 c3_i32_170
  let c32_i32_171 : BitVec 32 := 32#32
  let v184 : BitVec 32 := Scalar.remsi v183 c32_i32_171
  let c1_i32_281 : BitVec 32 := 1#32
  let v296 : BitVec 32 := Scalar.muli v184 c1_i32_281
  let v297 : BitVec 32 := Scalar.addi c0_i32_282 v296
  v297.toNat
def k0_dev36 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_172 : BitVec 32 := 1#32
  let v185 : BitVec 32 := Scalar.addi v2 c1_i32_172
  let c4_i32_173 : BitVec 32 := 4#32
  let v186 : BitVec 32 := Scalar.addi v185 c4_i32_173
  let c32_i32_174 : BitVec 32 := 32#32
  let v187 : BitVec 32 := Scalar.remsi v186 c32_i32_174
  let c1_i32_289 : BitVec 32 := 1#32
  let v306 : BitVec 32 := Scalar.muli v187 c1_i32_289
  let v307 : BitVec 32 := Scalar.addi c0_i32_290 v306
  v307.toNat
def k0_dev37 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_175 : BitVec 32 := 1#32
  let v188 : BitVec 32 := Scalar.addi v2 c1_i32_175
  let c5_i32_176 : BitVec 32 := 5#32
  let v189 : BitVec 32 := Scalar.addi v188 c5_i32_176
  let c32_i32_177 : BitVec 32 := 32#32
  let v190 : BitVec 32 := Scalar.remsi v189 c32_i32_177
  let c1_i32_297 : BitVec 32 := 1#32
  let v316 : BitVec 32 := Scalar.muli v190 c1_i32_297
  let v317 : BitVec 32 := Scalar.addi c0_i32_298 v316
  v317.toNat
def k0_dev38 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v191 : BitVec 32 := Scalar.addi v2 c1_i32_178
  let c6_i32_179 : BitVec 32 := 6#32
  let v192 : BitVec 32 := Scalar.addi v191 c6_i32_179
  let c32_i32_180 : BitVec 32 := 32#32
  let v193 : BitVec 32 := Scalar.remsi v192 c32_i32_180
  let c1_i32_305 : BitVec 32 := 1#32
  let v326 : BitVec 32 := Scalar.muli v193 c1_i32_305
  let v327 : BitVec 32 := Scalar.addi c0_i32_306 v326
  v327.toNat
def k0_dev39 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_181 : BitVec 32 := 1#32
  let v194 : BitVec 32 := Scalar.addi v2 c1_i32_181
  let c7_i32_182 : BitVec 32 := 7#32
  let v195 : BitVec 32 := Scalar.addi v194 c7_i32_182
  let c32_i32_183 : BitVec 32 := 32#32
  let v196 : BitVec 32 := Scalar.remsi v195 c32_i32_183
  let c1_i32_313 : BitVec 32 := 1#32
  let v336 : BitVec 32 := Scalar.muli v196 c1_i32_313
  let v337 : BitVec 32 := Scalar.addi c0_i32_314 v336
  v337.toNat
def k0_dev40 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_184 : BitVec 32 := 1#32
  let v197 : BitVec 32 := Scalar.addi v2 c1_i32_184
  let c8_i32_185 : BitVec 32 := 8#32
  let v198 : BitVec 32 := Scalar.addi v197 c8_i32_185
  let c32_i32_186 : BitVec 32 := 32#32
  let v199 : BitVec 32 := Scalar.remsi v198 c32_i32_186
  let c1_i32_321 : BitVec 32 := 1#32
  let v346 : BitVec 32 := Scalar.muli v199 c1_i32_321
  let v347 : BitVec 32 := Scalar.addi c0_i32_322 v346
  v347.toNat
def k0_dev41 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_187 : BitVec 32 := 1#32
  let v200 : BitVec 32 := Scalar.addi v2 c1_i32_187
  let c9_i32_188 : BitVec 32 := 9#32
  let v201 : BitVec 32 := Scalar.addi v200 c9_i32_188
  let c32_i32_189 : BitVec 32 := 32#32
  let v202 : BitVec 32 := Scalar.remsi v201 c32_i32_189
  let c1_i32_329 : BitVec 32 := 1#32
  let v356 : BitVec 32 := Scalar.muli v202 c1_i32_329
  let v357 : BitVec 32 := Scalar.addi c0_i32_330 v356
  v357.toNat
def k0_dev42 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v203 : BitVec 32 := Scalar.addi v2 c1_i32_190
  let c10_i32_191 : BitVec 32 := 10#32
  let v204 : BitVec 32 := Scalar.addi v203 c10_i32_191
  let c32_i32_192 : BitVec 32 := 32#32
  let v205 : BitVec 32 := Scalar.remsi v204 c32_i32_192
  let c1_i32_337 : BitVec 32 := 1#32
  let v366 : BitVec 32 := Scalar.muli v205 c1_i32_337
  let v367 : BitVec 32 := Scalar.addi c0_i32_338 v366
  v367.toNat
def k0_dev43 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_193 : BitVec 32 := 1#32
  let v206 : BitVec 32 := Scalar.addi v2 c1_i32_193
  let c11_i32_194 : BitVec 32 := 11#32
  let v207 : BitVec 32 := Scalar.addi v206 c11_i32_194
  let c32_i32_195 : BitVec 32 := 32#32
  let v208 : BitVec 32 := Scalar.remsi v207 c32_i32_195
  let c1_i32_345 : BitVec 32 := 1#32
  let v376 : BitVec 32 := Scalar.muli v208 c1_i32_345
  let v377 : BitVec 32 := Scalar.addi c0_i32_346 v376
  v377.toNat
def k0_dev44 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_196 : BitVec 32 := 1#32
  let v209 : BitVec 32 := Scalar.addi v2 c1_i32_196
  let c12_i32_197 : BitVec 32 := 12#32
  let v210 : BitVec 32 := Scalar.addi v209 c12_i32_197
  let c32_i32_198 : BitVec 32 := 32#32
  let v211 : BitVec 32 := Scalar.remsi v210 c32_i32_198
  let c1_i32_353 : BitVec 32 := 1#32
  let v386 : BitVec 32 := Scalar.muli v211 c1_i32_353
  let v387 : BitVec 32 := Scalar.addi c0_i32_354 v386
  v387.toNat
def k0_dev45 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_199 : BitVec 32 := 1#32
  let v212 : BitVec 32 := Scalar.addi v2 c1_i32_199
  let c13_i32_200 : BitVec 32 := 13#32
  let v213 : BitVec 32 := Scalar.addi v212 c13_i32_200
  let c32_i32_201 : BitVec 32 := 32#32
  let v214 : BitVec 32 := Scalar.remsi v213 c32_i32_201
  let c1_i32_361 : BitVec 32 := 1#32
  let v396 : BitVec 32 := Scalar.muli v214 c1_i32_361
  let v397 : BitVec 32 := Scalar.addi c0_i32_362 v396
  v397.toNat
def k0_dev46 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v215 : BitVec 32 := Scalar.addi v2 c1_i32_202
  let c14_i32_203 : BitVec 32 := 14#32
  let v216 : BitVec 32 := Scalar.addi v215 c14_i32_203
  let c32_i32_204 : BitVec 32 := 32#32
  let v217 : BitVec 32 := Scalar.remsi v216 c32_i32_204
  let c1_i32_369 : BitVec 32 := 1#32
  let v406 : BitVec 32 := Scalar.muli v217 c1_i32_369
  let v407 : BitVec 32 := Scalar.addi c0_i32_370 v406
  v407.toNat
def k0_dev47 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_205 : BitVec 32 := 1#32
  let v218 : BitVec 32 := Scalar.addi v2 c1_i32_205
  let c15_i32_206 : BitVec 32 := 15#32
  let v219 : BitVec 32 := Scalar.addi v218 c15_i32_206
  let c32_i32_207 : BitVec 32 := 32#32
  let v220 : BitVec 32 := Scalar.remsi v219 c32_i32_207
  let c1_i32_377 : BitVec 32 := 1#32
  let v416 : BitVec 32 := Scalar.muli v220 c1_i32_377
  let v417 : BitVec 32 := Scalar.addi c0_i32_378 v416
  v417.toNat
def k0_dev48 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_208 : BitVec 32 := 1#32
  let v221 : BitVec 32 := Scalar.addi v2 c1_i32_208
  let c16_i32_209 : BitVec 32 := 16#32
  let v222 : BitVec 32 := Scalar.addi v221 c16_i32_209
  let c32_i32_210 : BitVec 32 := 32#32
  let v223 : BitVec 32 := Scalar.remsi v222 c32_i32_210
  let c1_i32_385 : BitVec 32 := 1#32
  let v426 : BitVec 32 := Scalar.muli v223 c1_i32_385
  let v427 : BitVec 32 := Scalar.addi c0_i32_386 v426
  v427.toNat
def k0_dev49 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_211 : BitVec 32 := 1#32
  let v224 : BitVec 32 := Scalar.addi v2 c1_i32_211
  let c17_i32_212 : BitVec 32 := 17#32
  let v225 : BitVec 32 := Scalar.addi v224 c17_i32_212
  let c32_i32_213 : BitVec 32 := 32#32
  let v226 : BitVec 32 := Scalar.remsi v225 c32_i32_213
  let c1_i32_393 : BitVec 32 := 1#32
  let v436 : BitVec 32 := Scalar.muli v226 c1_i32_393
  let v437 : BitVec 32 := Scalar.addi c0_i32_394 v436
  v437.toNat
def k0_dev50 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v227 : BitVec 32 := Scalar.addi v2 c1_i32_214
  let c18_i32_215 : BitVec 32 := 18#32
  let v228 : BitVec 32 := Scalar.addi v227 c18_i32_215
  let c32_i32_216 : BitVec 32 := 32#32
  let v229 : BitVec 32 := Scalar.remsi v228 c32_i32_216
  let c1_i32_401 : BitVec 32 := 1#32
  let v446 : BitVec 32 := Scalar.muli v229 c1_i32_401
  let v447 : BitVec 32 := Scalar.addi c0_i32_402 v446
  v447.toNat
def k0_dev51 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_217 : BitVec 32 := 1#32
  let v230 : BitVec 32 := Scalar.addi v2 c1_i32_217
  let c19_i32_218 : BitVec 32 := 19#32
  let v231 : BitVec 32 := Scalar.addi v230 c19_i32_218
  let c32_i32_219 : BitVec 32 := 32#32
  let v232 : BitVec 32 := Scalar.remsi v231 c32_i32_219
  let c1_i32_409 : BitVec 32 := 1#32
  let v456 : BitVec 32 := Scalar.muli v232 c1_i32_409
  let v457 : BitVec 32 := Scalar.addi c0_i32_410 v456
  v457.toNat
def k0_dev52 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_220 : BitVec 32 := 1#32
  let v233 : BitVec 32 := Scalar.addi v2 c1_i32_220
  let c20_i32_221 : BitVec 32 := 20#32
  let v234 : BitVec 32 := Scalar.addi v233 c20_i32_221
  let c32_i32_222 : BitVec 32 := 32#32
  let v235 : BitVec 32 := Scalar.remsi v234 c32_i32_222
  let c1_i32_417 : BitVec 32 := 1#32
  let v466 : BitVec 32 := Scalar.muli v235 c1_i32_417
  let v467 : BitVec 32 := Scalar.addi c0_i32_418 v466
  v467.toNat
def k0_dev53 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_223 : BitVec 32 := 1#32
  let v236 : BitVec 32 := Scalar.addi v2 c1_i32_223
  let c21_i32_224 : BitVec 32 := 21#32
  let v237 : BitVec 32 := Scalar.addi v236 c21_i32_224
  let c32_i32_225 : BitVec 32 := 32#32
  let v238 : BitVec 32 := Scalar.remsi v237 c32_i32_225
  let c1_i32_425 : BitVec 32 := 1#32
  let v476 : BitVec 32 := Scalar.muli v238 c1_i32_425
  let v477 : BitVec 32 := Scalar.addi c0_i32_426 v476
  v477.toNat
def k0_dev54 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v239 : BitVec 32 := Scalar.addi v2 c1_i32_226
  let c22_i32_227 : BitVec 32 := 22#32
  let v240 : BitVec 32 := Scalar.addi v239 c22_i32_227
  let c32_i32_228 : BitVec 32 := 32#32
  let v241 : BitVec 32 := Scalar.remsi v240 c32_i32_228
  let c1_i32_433 : BitVec 32 := 1#32
  let v486 : BitVec 32 := Scalar.muli v241 c1_i32_433
  let v487 : BitVec 32 := Scalar.addi c0_i32_434 v486
  v487.toNat
def k0_dev55 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_229 : BitVec 32 := 1#32
  let v242 : BitVec 32 := Scalar.addi v2 c1_i32_229
  let c23_i32_230 : BitVec 32 := 23#32
  let v243 : BitVec 32 := Scalar.addi v242 c23_i32_230
  let c32_i32_231 : BitVec 32 := 32#32
  let v244 : BitVec 32 := Scalar.remsi v243 c32_i32_231
  let c1_i32_441 : BitVec 32 := 1#32
  let v496 : BitVec 32 := Scalar.muli v244 c1_i32_441
  let v497 : BitVec 32 := Scalar.addi c0_i32_442 v496
  v497.toNat
def k0_dev56 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_232 : BitVec 32 := 1#32
  let v245 : BitVec 32 := Scalar.addi v2 c1_i32_232
  let c24_i32_233 : BitVec 32 := 24#32
  let v246 : BitVec 32 := Scalar.addi v245 c24_i32_233
  let c32_i32_234 : BitVec 32 := 32#32
  let v247 : BitVec 32 := Scalar.remsi v246 c32_i32_234
  let c1_i32_449 : BitVec 32 := 1#32
  let v506 : BitVec 32 := Scalar.muli v247 c1_i32_449
  let v507 : BitVec 32 := Scalar.addi c0_i32_450 v506
  v507.toNat
def k0_dev57 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_235 : BitVec 32 := 1#32
  let v248 : BitVec 32 := Scalar.addi v2 c1_i32_235
  let c25_i32_236 : BitVec 32 := 25#32
  let v249 : BitVec 32 := Scalar.addi v248 c25_i32_236
  let c32_i32_237 : BitVec 32 := 32#32
  let v250 : BitVec 32 := Scalar.remsi v249 c32_i32_237
  let c1_i32_457 : BitVec 32 := 1#32
  let v516 : BitVec 32 := Scalar.muli v250 c1_i32_457
  let v517 : BitVec 32 := Scalar.addi c0_i32_458 v516
  v517.toNat
def k0_dev58 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v251 : BitVec 32 := Scalar.addi v2 c1_i32_238
  let c26_i32_239 : BitVec 32 := 26#32
  let v252 : BitVec 32 := Scalar.addi v251 c26_i32_239
  let c32_i32_240 : BitVec 32 := 32#32
  let v253 : BitVec 32 := Scalar.remsi v252 c32_i32_240
  let c1_i32_465 : BitVec 32 := 1#32
  let v526 : BitVec 32 := Scalar.muli v253 c1_i32_465
  let v527 : BitVec 32 := Scalar.addi c0_i32_466 v526
  v527.toNat
def k0_dev59 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_241 : BitVec 32 := 1#32
  let v254 : BitVec 32 := Scalar.addi v2 c1_i32_241
  let c27_i32_242 : BitVec 32 := 27#32
  let v255 : BitVec 32 := Scalar.addi v254 c27_i32_242
  let c32_i32_243 : BitVec 32 := 32#32
  let v256 : BitVec 32 := Scalar.remsi v255 c32_i32_243
  let c1_i32_473 : BitVec 32 := 1#32
  let v536 : BitVec 32 := Scalar.muli v256 c1_i32_473
  let v537 : BitVec 32 := Scalar.addi c0_i32_474 v536
  v537.toNat
def k0_dev60 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_244 : BitVec 32 := 1#32
  let v257 : BitVec 32 := Scalar.addi v2 c1_i32_244
  let c28_i32_245 : BitVec 32 := 28#32
  let v258 : BitVec 32 := Scalar.addi v257 c28_i32_245
  let c32_i32_246 : BitVec 32 := 32#32
  let v259 : BitVec 32 := Scalar.remsi v258 c32_i32_246
  let c1_i32_481 : BitVec 32 := 1#32
  let v546 : BitVec 32 := Scalar.muli v259 c1_i32_481
  let v547 : BitVec 32 := Scalar.addi c0_i32_482 v546
  v547.toNat
def k0_dev61 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_247 : BitVec 32 := 1#32
  let v260 : BitVec 32 := Scalar.addi v2 c1_i32_247
  let c29_i32_248 : BitVec 32 := 29#32
  let v261 : BitVec 32 := Scalar.addi v260 c29_i32_248
  let c32_i32_249 : BitVec 32 := 32#32
  let v262 : BitVec 32 := Scalar.remsi v261 c32_i32_249
  let c1_i32_489 : BitVec 32 := 1#32
  let v556 : BitVec 32 := Scalar.muli v262 c1_i32_489
  let v557 : BitVec 32 := Scalar.addi c0_i32_490 v556
  v557.toNat
def k0_dev62 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v263 : BitVec 32 := Scalar.addi v2 c1_i32_250
  let c30_i32_251 : BitVec 32 := 30#32
  let v264 : BitVec 32 := Scalar.addi v263 c30_i32_251
  let c32_i32_252 : BitVec 32 := 32#32
  let v265 : BitVec 32 := Scalar.remsi v264 c32_i32_252
  let c1_i32_497 : BitVec 32 := 1#32
  let v566 : BitVec 32 := Scalar.muli v265 c1_i32_497
  let v567 : BitVec 32 := Scalar.addi c0_i32_498 v566
  v567.toNat
def k0_dev63 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_520 : BitVec 32 := 1#32
  let v627 : BitVec 32 := Scalar.addi v2 c1_i32_520
  let c0_i32_521 : BitVec 32 := 0#32
  let v628 : BitVec 32 := Scalar.addi v627 c0_i32_521
  let c32_i32_522 : BitVec 32 := 32#32
  let v629 : BitVec 32 := Scalar.remsi v628 c32_i32_522
  let c1_i32_617 : BitVec 32 := 1#32
  let v720 : BitVec 32 := Scalar.muli v629 c1_i32_617
  let v721 : BitVec 32 := Scalar.addi c0_i32_618 v720
  v721.toNat
def k0_dev64 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_523 : BitVec 32 := 1#32
  let v630 : BitVec 32 := Scalar.addi v2 c1_i32_523
  let c1_i32_524 : BitVec 32 := 1#32
  let v631 : BitVec 32 := Scalar.addi v630 c1_i32_524
  let c32_i32_525 : BitVec 32 := 32#32
  let v632 : BitVec 32 := Scalar.remsi v631 c32_i32_525
  let c1_i32_629 : BitVec 32 := 1#32
  let v730 : BitVec 32 := Scalar.muli v632 c1_i32_629
  let v731 : BitVec 32 := Scalar.addi c0_i32_630 v730
  v731.toNat
def k0_dev65 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_526 : BitVec 32 := 1#32
  let v633 : BitVec 32 := Scalar.addi v2 c1_i32_526
  let c2_i32_527 : BitVec 32 := 2#32
  let v634 : BitVec 32 := Scalar.addi v633 c2_i32_527
  let c32_i32_528 : BitVec 32 := 32#32
  let v635 : BitVec 32 := Scalar.remsi v634 c32_i32_528
  let c1_i32_641 : BitVec 32 := 1#32
  let v740 : BitVec 32 := Scalar.muli v635 c1_i32_641
  let v741 : BitVec 32 := Scalar.addi c0_i32_642 v740
  v741.toNat
def k0_dev66 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_529 : BitVec 32 := 1#32
  let v636 : BitVec 32 := Scalar.addi v2 c1_i32_529
  let c3_i32_530 : BitVec 32 := 3#32
  let v637 : BitVec 32 := Scalar.addi v636 c3_i32_530
  let c32_i32_531 : BitVec 32 := 32#32
  let v638 : BitVec 32 := Scalar.remsi v637 c32_i32_531
  let c1_i32_653 : BitVec 32 := 1#32
  let v750 : BitVec 32 := Scalar.muli v638 c1_i32_653
  let v751 : BitVec 32 := Scalar.addi c0_i32_654 v750
  v751.toNat
def k0_dev67 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_532 : BitVec 32 := 1#32
  let v639 : BitVec 32 := Scalar.addi v2 c1_i32_532
  let c4_i32_533 : BitVec 32 := 4#32
  let v640 : BitVec 32 := Scalar.addi v639 c4_i32_533
  let c32_i32_534 : BitVec 32 := 32#32
  let v641 : BitVec 32 := Scalar.remsi v640 c32_i32_534
  let c1_i32_665 : BitVec 32 := 1#32
  let v760 : BitVec 32 := Scalar.muli v641 c1_i32_665
  let v761 : BitVec 32 := Scalar.addi c0_i32_666 v760
  v761.toNat
def k0_dev68 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_535 : BitVec 32 := 1#32
  let v642 : BitVec 32 := Scalar.addi v2 c1_i32_535
  let c5_i32_536 : BitVec 32 := 5#32
  let v643 : BitVec 32 := Scalar.addi v642 c5_i32_536
  let c32_i32_537 : BitVec 32 := 32#32
  let v644 : BitVec 32 := Scalar.remsi v643 c32_i32_537
  let c1_i32_677 : BitVec 32 := 1#32
  let v770 : BitVec 32 := Scalar.muli v644 c1_i32_677
  let v771 : BitVec 32 := Scalar.addi c0_i32_678 v770
  v771.toNat
def k0_dev69 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_538 : BitVec 32 := 1#32
  let v645 : BitVec 32 := Scalar.addi v2 c1_i32_538
  let c6_i32_539 : BitVec 32 := 6#32
  let v646 : BitVec 32 := Scalar.addi v645 c6_i32_539
  let c32_i32_540 : BitVec 32 := 32#32
  let v647 : BitVec 32 := Scalar.remsi v646 c32_i32_540
  let c1_i32_689 : BitVec 32 := 1#32
  let v780 : BitVec 32 := Scalar.muli v647 c1_i32_689
  let v781 : BitVec 32 := Scalar.addi c0_i32_690 v780
  v781.toNat
def k0_dev70 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_541 : BitVec 32 := 1#32
  let v648 : BitVec 32 := Scalar.addi v2 c1_i32_541
  let c7_i32_542 : BitVec 32 := 7#32
  let v649 : BitVec 32 := Scalar.addi v648 c7_i32_542
  let c32_i32_543 : BitVec 32 := 32#32
  let v650 : BitVec 32 := Scalar.remsi v649 c32_i32_543
  let c1_i32_701 : BitVec 32 := 1#32
  let v790 : BitVec 32 := Scalar.muli v650 c1_i32_701
  let v791 : BitVec 32 := Scalar.addi c0_i32_702 v790
  v791.toNat
def k0_dev71 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_544 : BitVec 32 := 1#32
  let v651 : BitVec 32 := Scalar.addi v2 c1_i32_544
  let c8_i32_545 : BitVec 32 := 8#32
  let v652 : BitVec 32 := Scalar.addi v651 c8_i32_545
  let c32_i32_546 : BitVec 32 := 32#32
  let v653 : BitVec 32 := Scalar.remsi v652 c32_i32_546
  let c1_i32_713 : BitVec 32 := 1#32
  let v800 : BitVec 32 := Scalar.muli v653 c1_i32_713
  let v801 : BitVec 32 := Scalar.addi c0_i32_714 v800
  v801.toNat
def k0_dev72 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_547 : BitVec 32 := 1#32
  let v654 : BitVec 32 := Scalar.addi v2 c1_i32_547
  let c9_i32_548 : BitVec 32 := 9#32
  let v655 : BitVec 32 := Scalar.addi v654 c9_i32_548
  let c32_i32_549 : BitVec 32 := 32#32
  let v656 : BitVec 32 := Scalar.remsi v655 c32_i32_549
  let c1_i32_725 : BitVec 32 := 1#32
  let v810 : BitVec 32 := Scalar.muli v656 c1_i32_725
  let v811 : BitVec 32 := Scalar.addi c0_i32_726 v810
  v811.toNat
def k0_dev73 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_550 : BitVec 32 := 1#32
  let v657 : BitVec 32 := Scalar.addi v2 c1_i32_550
  let c10_i32_551 : BitVec 32 := 10#32
  let v658 : BitVec 32 := Scalar.addi v657 c10_i32_551
  let c32_i32_552 : BitVec 32 := 32#32
  let v659 : BitVec 32 := Scalar.remsi v658 c32_i32_552
  let c1_i32_737 : BitVec 32 := 1#32
  let v820 : BitVec 32 := Scalar.muli v659 c1_i32_737
  let v821 : BitVec 32 := Scalar.addi c0_i32_738 v820
  v821.toNat
def k0_dev74 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_553 : BitVec 32 := 1#32
  let v660 : BitVec 32 := Scalar.addi v2 c1_i32_553
  let c11_i32_554 : BitVec 32 := 11#32
  let v661 : BitVec 32 := Scalar.addi v660 c11_i32_554
  let c32_i32_555 : BitVec 32 := 32#32
  let v662 : BitVec 32 := Scalar.remsi v661 c32_i32_555
  let c1_i32_749 : BitVec 32 := 1#32
  let v830 : BitVec 32 := Scalar.muli v662 c1_i32_749
  let v831 : BitVec 32 := Scalar.addi c0_i32_750 v830
  v831.toNat
def k0_dev75 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_556 : BitVec 32 := 1#32
  let v663 : BitVec 32 := Scalar.addi v2 c1_i32_556
  let c12_i32_557 : BitVec 32 := 12#32
  let v664 : BitVec 32 := Scalar.addi v663 c12_i32_557
  let c32_i32_558 : BitVec 32 := 32#32
  let v665 : BitVec 32 := Scalar.remsi v664 c32_i32_558
  let c1_i32_761 : BitVec 32 := 1#32
  let v840 : BitVec 32 := Scalar.muli v665 c1_i32_761
  let v841 : BitVec 32 := Scalar.addi c0_i32_762 v840
  v841.toNat
def k0_dev76 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_559 : BitVec 32 := 1#32
  let v666 : BitVec 32 := Scalar.addi v2 c1_i32_559
  let c13_i32_560 : BitVec 32 := 13#32
  let v667 : BitVec 32 := Scalar.addi v666 c13_i32_560
  let c32_i32_561 : BitVec 32 := 32#32
  let v668 : BitVec 32 := Scalar.remsi v667 c32_i32_561
  let c1_i32_773 : BitVec 32 := 1#32
  let v850 : BitVec 32 := Scalar.muli v668 c1_i32_773
  let v851 : BitVec 32 := Scalar.addi c0_i32_774 v850
  v851.toNat
def k0_dev77 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_562 : BitVec 32 := 1#32
  let v669 : BitVec 32 := Scalar.addi v2 c1_i32_562
  let c14_i32_563 : BitVec 32 := 14#32
  let v670 : BitVec 32 := Scalar.addi v669 c14_i32_563
  let c32_i32_564 : BitVec 32 := 32#32
  let v671 : BitVec 32 := Scalar.remsi v670 c32_i32_564
  let c1_i32_785 : BitVec 32 := 1#32
  let v860 : BitVec 32 := Scalar.muli v671 c1_i32_785
  let v861 : BitVec 32 := Scalar.addi c0_i32_786 v860
  v861.toNat
def k0_dev78 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_565 : BitVec 32 := 1#32
  let v672 : BitVec 32 := Scalar.addi v2 c1_i32_565
  let c15_i32_566 : BitVec 32 := 15#32
  let v673 : BitVec 32 := Scalar.addi v672 c15_i32_566
  let c32_i32_567 : BitVec 32 := 32#32
  let v674 : BitVec 32 := Scalar.remsi v673 c32_i32_567
  let c1_i32_797 : BitVec 32 := 1#32
  let v870 : BitVec 32 := Scalar.muli v674 c1_i32_797
  let v871 : BitVec 32 := Scalar.addi c0_i32_798 v870
  v871.toNat
def k0_dev79 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_568 : BitVec 32 := 1#32
  let v675 : BitVec 32 := Scalar.addi v2 c1_i32_568
  let c16_i32_569 : BitVec 32 := 16#32
  let v676 : BitVec 32 := Scalar.addi v675 c16_i32_569
  let c32_i32_570 : BitVec 32 := 32#32
  let v677 : BitVec 32 := Scalar.remsi v676 c32_i32_570
  let c1_i32_809 : BitVec 32 := 1#32
  let v880 : BitVec 32 := Scalar.muli v677 c1_i32_809
  let v881 : BitVec 32 := Scalar.addi c0_i32_810 v880
  v881.toNat
def k0_dev80 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_571 : BitVec 32 := 1#32
  let v678 : BitVec 32 := Scalar.addi v2 c1_i32_571
  let c17_i32_572 : BitVec 32 := 17#32
  let v679 : BitVec 32 := Scalar.addi v678 c17_i32_572
  let c32_i32_573 : BitVec 32 := 32#32
  let v680 : BitVec 32 := Scalar.remsi v679 c32_i32_573
  let c1_i32_821 : BitVec 32 := 1#32
  let v890 : BitVec 32 := Scalar.muli v680 c1_i32_821
  let v891 : BitVec 32 := Scalar.addi c0_i32_822 v890
  v891.toNat
def k0_dev81 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_574 : BitVec 32 := 1#32
  let v681 : BitVec 32 := Scalar.addi v2 c1_i32_574
  let c18_i32_575 : BitVec 32 := 18#32
  let v682 : BitVec 32 := Scalar.addi v681 c18_i32_575
  let c32_i32_576 : BitVec 32 := 32#32
  let v683 : BitVec 32 := Scalar.remsi v682 c32_i32_576
  let c1_i32_833 : BitVec 32 := 1#32
  let v900 : BitVec 32 := Scalar.muli v683 c1_i32_833
  let v901 : BitVec 32 := Scalar.addi c0_i32_834 v900
  v901.toNat
def k0_dev82 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_577 : BitVec 32 := 1#32
  let v684 : BitVec 32 := Scalar.addi v2 c1_i32_577
  let c19_i32_578 : BitVec 32 := 19#32
  let v685 : BitVec 32 := Scalar.addi v684 c19_i32_578
  let c32_i32_579 : BitVec 32 := 32#32
  let v686 : BitVec 32 := Scalar.remsi v685 c32_i32_579
  let c1_i32_845 : BitVec 32 := 1#32
  let v910 : BitVec 32 := Scalar.muli v686 c1_i32_845
  let v911 : BitVec 32 := Scalar.addi c0_i32_846 v910
  v911.toNat
def k0_dev83 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_580 : BitVec 32 := 1#32
  let v687 : BitVec 32 := Scalar.addi v2 c1_i32_580
  let c20_i32_581 : BitVec 32 := 20#32
  let v688 : BitVec 32 := Scalar.addi v687 c20_i32_581
  let c32_i32_582 : BitVec 32 := 32#32
  let v689 : BitVec 32 := Scalar.remsi v688 c32_i32_582
  let c1_i32_857 : BitVec 32 := 1#32
  let v920 : BitVec 32 := Scalar.muli v689 c1_i32_857
  let v921 : BitVec 32 := Scalar.addi c0_i32_858 v920
  v921.toNat
def k0_dev84 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_583 : BitVec 32 := 1#32
  let v690 : BitVec 32 := Scalar.addi v2 c1_i32_583
  let c21_i32_584 : BitVec 32 := 21#32
  let v691 : BitVec 32 := Scalar.addi v690 c21_i32_584
  let c32_i32_585 : BitVec 32 := 32#32
  let v692 : BitVec 32 := Scalar.remsi v691 c32_i32_585
  let c1_i32_869 : BitVec 32 := 1#32
  let v930 : BitVec 32 := Scalar.muli v692 c1_i32_869
  let v931 : BitVec 32 := Scalar.addi c0_i32_870 v930
  v931.toNat
def k0_dev85 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_586 : BitVec 32 := 1#32
  let v693 : BitVec 32 := Scalar.addi v2 c1_i32_586
  let c22_i32_587 : BitVec 32 := 22#32
  let v694 : BitVec 32 := Scalar.addi v693 c22_i32_587
  let c32_i32_588 : BitVec 32 := 32#32
  let v695 : BitVec 32 := Scalar.remsi v694 c32_i32_588
  let c1_i32_881 : BitVec 32 := 1#32
  let v940 : BitVec 32 := Scalar.muli v695 c1_i32_881
  let v941 : BitVec 32 := Scalar.addi c0_i32_882 v940
  v941.toNat
def k0_dev86 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_589 : BitVec 32 := 1#32
  let v696 : BitVec 32 := Scalar.addi v2 c1_i32_589
  let c23_i32_590 : BitVec 32 := 23#32
  let v697 : BitVec 32 := Scalar.addi v696 c23_i32_590
  let c32_i32_591 : BitVec 32 := 32#32
  let v698 : BitVec 32 := Scalar.remsi v697 c32_i32_591
  let c1_i32_893 : BitVec 32 := 1#32
  let v950 : BitVec 32 := Scalar.muli v698 c1_i32_893
  let v951 : BitVec 32 := Scalar.addi c0_i32_894 v950
  v951.toNat
def k0_dev87 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_592 : BitVec 32 := 1#32
  let v699 : BitVec 32 := Scalar.addi v2 c1_i32_592
  let c24_i32_593 : BitVec 32 := 24#32
  let v700 : BitVec 32 := Scalar.addi v699 c24_i32_593
  let c32_i32_594 : BitVec 32 := 32#32
  let v701 : BitVec 32 := Scalar.remsi v700 c32_i32_594
  let c1_i32_905 : BitVec 32 := 1#32
  let v960 : BitVec 32 := Scalar.muli v701 c1_i32_905
  let v961 : BitVec 32 := Scalar.addi c0_i32_906 v960
  v961.toNat
def k0_dev88 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_595 : BitVec 32 := 1#32
  let v702 : BitVec 32 := Scalar.addi v2 c1_i32_595
  let c25_i32_596 : BitVec 32 := 25#32
  let v703 : BitVec 32 := Scalar.addi v702 c25_i32_596
  let c32_i32_597 : BitVec 32 := 32#32
  let v704 : BitVec 32 := Scalar.remsi v703 c32_i32_597
  let c1_i32_917 : BitVec 32 := 1#32
  let v970 : BitVec 32 := Scalar.muli v704 c1_i32_917
  let v971 : BitVec 32 := Scalar.addi c0_i32_918 v970
  v971.toNat
def k0_dev89 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_598 : BitVec 32 := 1#32
  let v705 : BitVec 32 := Scalar.addi v2 c1_i32_598
  let c26_i32_599 : BitVec 32 := 26#32
  let v706 : BitVec 32 := Scalar.addi v705 c26_i32_599
  let c32_i32_600 : BitVec 32 := 32#32
  let v707 : BitVec 32 := Scalar.remsi v706 c32_i32_600
  let c1_i32_929 : BitVec 32 := 1#32
  let v980 : BitVec 32 := Scalar.muli v707 c1_i32_929
  let v981 : BitVec 32 := Scalar.addi c0_i32_930 v980
  v981.toNat
def k0_dev90 (d0 : Dev nD) : Nat :=
  let c0_i32_942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_601 : BitVec 32 := 1#32
  let v708 : BitVec 32 := Scalar.addi v2 c1_i32_601
  let c27_i32_602 : BitVec 32 := 27#32
  let v709 : BitVec 32 := Scalar.addi v708 c27_i32_602
  let c32_i32_603 : BitVec 32 := 32#32
  let v710 : BitVec 32 := Scalar.remsi v709 c32_i32_603
  let c1_i32_941 : BitVec 32 := 1#32
  let v990 : BitVec 32 := Scalar.muli v710 c1_i32_941
  let v991 : BitVec 32 := Scalar.addi c0_i32_942 v990
  v991.toNat
def k0_dev91 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_604 : BitVec 32 := 1#32
  let v711 : BitVec 32 := Scalar.addi v2 c1_i32_604
  let c28_i32_605 : BitVec 32 := 28#32
  let v712 : BitVec 32 := Scalar.addi v711 c28_i32_605
  let c32_i32_606 : BitVec 32 := 32#32
  let v713 : BitVec 32 := Scalar.remsi v712 c32_i32_606
  let c1_i32_953 : BitVec 32 := 1#32
  let v1000 : BitVec 32 := Scalar.muli v713 c1_i32_953
  let v1001 : BitVec 32 := Scalar.addi c0_i32_954 v1000
  v1001.toNat
def k0_dev92 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_607 : BitVec 32 := 1#32
  let v714 : BitVec 32 := Scalar.addi v2 c1_i32_607
  let c29_i32_608 : BitVec 32 := 29#32
  let v715 : BitVec 32 := Scalar.addi v714 c29_i32_608
  let c32_i32_609 : BitVec 32 := 32#32
  let v716 : BitVec 32 := Scalar.remsi v715 c32_i32_609
  let c1_i32_965 : BitVec 32 := 1#32
  let v1010 : BitVec 32 := Scalar.muli v716 c1_i32_965
  let v1011 : BitVec 32 := Scalar.addi c0_i32_966 v1010
  v1011.toNat
def k0_dev93 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_610 : BitVec 32 := 1#32
  let v717 : BitVec 32 := Scalar.addi v2 c1_i32_610
  let c30_i32_611 : BitVec 32 := 30#32
  let v718 : BitVec 32 := Scalar.addi v717 c30_i32_611
  let c32_i32_612 : BitVec 32 := 32#32
  let v719 : BitVec 32 := Scalar.remsi v718 c32_i32_612
  let c1_i32_977 : BitVec 32 := 1#32
  let v1020 : BitVec 32 := Scalar.muli v719 c1_i32_977
  let v1021 : BitVec 32 := Scalar.addi c0_i32_978 v1020
  v1021.toNat
def k0_dev94 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1296 : BitVec 32 := 1#32
  let v1353 : BitVec 32 := Scalar.addi v2 c1_i32_1296
  let c0_i32_1297 : BitVec 32 := 0#32
  let v1354 : BitVec 32 := Scalar.addi v1353 c0_i32_1297
  let c32_i32_1298 : BitVec 32 := 32#32
  let v1355 : BitVec 32 := Scalar.remsi v1354 c32_i32_1298
  let c1_i32_1393 : BitVec 32 := 1#32
  let v1446 : BitVec 32 := Scalar.muli v1355 c1_i32_1393
  let v1447 : BitVec 32 := Scalar.addi c0_i32_1394 v1446
  v1447.toNat
def k0_dev95 (d0 : Dev nD) : Nat :=
  let c0_i32_1406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1299 : BitVec 32 := 1#32
  let v1356 : BitVec 32 := Scalar.addi v2 c1_i32_1299
  let c1_i32_1300 : BitVec 32 := 1#32
  let v1357 : BitVec 32 := Scalar.addi v1356 c1_i32_1300
  let c32_i32_1301 : BitVec 32 := 32#32
  let v1358 : BitVec 32 := Scalar.remsi v1357 c32_i32_1301
  let c1_i32_1405 : BitVec 32 := 1#32
  let v1456 : BitVec 32 := Scalar.muli v1358 c1_i32_1405
  let v1457 : BitVec 32 := Scalar.addi c0_i32_1406 v1456
  v1457.toNat
def k0_dev96 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1302 : BitVec 32 := 1#32
  let v1359 : BitVec 32 := Scalar.addi v2 c1_i32_1302
  let c2_i32_1303 : BitVec 32 := 2#32
  let v1360 : BitVec 32 := Scalar.addi v1359 c2_i32_1303
  let c32_i32_1304 : BitVec 32 := 32#32
  let v1361 : BitVec 32 := Scalar.remsi v1360 c32_i32_1304
  let c1_i32_1417 : BitVec 32 := 1#32
  let v1466 : BitVec 32 := Scalar.muli v1361 c1_i32_1417
  let v1467 : BitVec 32 := Scalar.addi c0_i32_1418 v1466
  v1467.toNat
def k0_dev97 (d0 : Dev nD) : Nat :=
  let c0_i32_1430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1305 : BitVec 32 := 1#32
  let v1362 : BitVec 32 := Scalar.addi v2 c1_i32_1305
  let c3_i32_1306 : BitVec 32 := 3#32
  let v1363 : BitVec 32 := Scalar.addi v1362 c3_i32_1306
  let c32_i32_1307 : BitVec 32 := 32#32
  let v1364 : BitVec 32 := Scalar.remsi v1363 c32_i32_1307
  let c1_i32_1429 : BitVec 32 := 1#32
  let v1476 : BitVec 32 := Scalar.muli v1364 c1_i32_1429
  let v1477 : BitVec 32 := Scalar.addi c0_i32_1430 v1476
  v1477.toNat
def k0_dev98 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1308 : BitVec 32 := 1#32
  let v1365 : BitVec 32 := Scalar.addi v2 c1_i32_1308
  let c4_i32_1309 : BitVec 32 := 4#32
  let v1366 : BitVec 32 := Scalar.addi v1365 c4_i32_1309
  let c32_i32_1310 : BitVec 32 := 32#32
  let v1367 : BitVec 32 := Scalar.remsi v1366 c32_i32_1310
  let c1_i32_1441 : BitVec 32 := 1#32
  let v1486 : BitVec 32 := Scalar.muli v1367 c1_i32_1441
  let v1487 : BitVec 32 := Scalar.addi c0_i32_1442 v1486
  v1487.toNat
def k0_dev99 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1311 : BitVec 32 := 1#32
  let v1368 : BitVec 32 := Scalar.addi v2 c1_i32_1311
  let c5_i32_1312 : BitVec 32 := 5#32
  let v1369 : BitVec 32 := Scalar.addi v1368 c5_i32_1312
  let c32_i32_1313 : BitVec 32 := 32#32
  let v1370 : BitVec 32 := Scalar.remsi v1369 c32_i32_1313
  let c1_i32_1453 : BitVec 32 := 1#32
  let v1496 : BitVec 32 := Scalar.muli v1370 c1_i32_1453
  let v1497 : BitVec 32 := Scalar.addi c0_i32_1454 v1496
  v1497.toNat
def k0_dev100 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1314 : BitVec 32 := 1#32
  let v1371 : BitVec 32 := Scalar.addi v2 c1_i32_1314
  let c6_i32_1315 : BitVec 32 := 6#32
  let v1372 : BitVec 32 := Scalar.addi v1371 c6_i32_1315
  let c32_i32_1316 : BitVec 32 := 32#32
  let v1373 : BitVec 32 := Scalar.remsi v1372 c32_i32_1316
  let c1_i32_1465 : BitVec 32 := 1#32
  let v1506 : BitVec 32 := Scalar.muli v1373 c1_i32_1465
  let v1507 : BitVec 32 := Scalar.addi c0_i32_1466 v1506
  v1507.toNat
def k0_dev101 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1317 : BitVec 32 := 1#32
  let v1374 : BitVec 32 := Scalar.addi v2 c1_i32_1317
  let c7_i32_1318 : BitVec 32 := 7#32
  let v1375 : BitVec 32 := Scalar.addi v1374 c7_i32_1318
  let c32_i32_1319 : BitVec 32 := 32#32
  let v1376 : BitVec 32 := Scalar.remsi v1375 c32_i32_1319
  let c1_i32_1477 : BitVec 32 := 1#32
  let v1516 : BitVec 32 := Scalar.muli v1376 c1_i32_1477
  let v1517 : BitVec 32 := Scalar.addi c0_i32_1478 v1516
  v1517.toNat
def k0_dev102 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1320 : BitVec 32 := 1#32
  let v1377 : BitVec 32 := Scalar.addi v2 c1_i32_1320
  let c8_i32_1321 : BitVec 32 := 8#32
  let v1378 : BitVec 32 := Scalar.addi v1377 c8_i32_1321
  let c32_i32_1322 : BitVec 32 := 32#32
  let v1379 : BitVec 32 := Scalar.remsi v1378 c32_i32_1322
  let c1_i32_1489 : BitVec 32 := 1#32
  let v1526 : BitVec 32 := Scalar.muli v1379 c1_i32_1489
  let v1527 : BitVec 32 := Scalar.addi c0_i32_1490 v1526
  v1527.toNat
def k0_dev103 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1323 : BitVec 32 := 1#32
  let v1380 : BitVec 32 := Scalar.addi v2 c1_i32_1323
  let c9_i32_1324 : BitVec 32 := 9#32
  let v1381 : BitVec 32 := Scalar.addi v1380 c9_i32_1324
  let c32_i32_1325 : BitVec 32 := 32#32
  let v1382 : BitVec 32 := Scalar.remsi v1381 c32_i32_1325
  let c1_i32_1501 : BitVec 32 := 1#32
  let v1536 : BitVec 32 := Scalar.muli v1382 c1_i32_1501
  let v1537 : BitVec 32 := Scalar.addi c0_i32_1502 v1536
  v1537.toNat
def k0_dev104 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1326 : BitVec 32 := 1#32
  let v1383 : BitVec 32 := Scalar.addi v2 c1_i32_1326
  let c10_i32_1327 : BitVec 32 := 10#32
  let v1384 : BitVec 32 := Scalar.addi v1383 c10_i32_1327
  let c32_i32_1328 : BitVec 32 := 32#32
  let v1385 : BitVec 32 := Scalar.remsi v1384 c32_i32_1328
  let c1_i32_1513 : BitVec 32 := 1#32
  let v1546 : BitVec 32 := Scalar.muli v1385 c1_i32_1513
  let v1547 : BitVec 32 := Scalar.addi c0_i32_1514 v1546
  v1547.toNat
def k0_dev105 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1329 : BitVec 32 := 1#32
  let v1386 : BitVec 32 := Scalar.addi v2 c1_i32_1329
  let c11_i32_1330 : BitVec 32 := 11#32
  let v1387 : BitVec 32 := Scalar.addi v1386 c11_i32_1330
  let c32_i32_1331 : BitVec 32 := 32#32
  let v1388 : BitVec 32 := Scalar.remsi v1387 c32_i32_1331
  let c1_i32_1525 : BitVec 32 := 1#32
  let v1556 : BitVec 32 := Scalar.muli v1388 c1_i32_1525
  let v1557 : BitVec 32 := Scalar.addi c0_i32_1526 v1556
  v1557.toNat
def k0_dev106 (d0 : Dev nD) : Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1332 : BitVec 32 := 1#32
  let v1389 : BitVec 32 := Scalar.addi v2 c1_i32_1332
  let c12_i32_1333 : BitVec 32 := 12#32
  let v1390 : BitVec 32 := Scalar.addi v1389 c12_i32_1333
  let c32_i32_1334 : BitVec 32 := 32#32
  let v1391 : BitVec 32 := Scalar.remsi v1390 c32_i32_1334
  let c1_i32_1537 : BitVec 32 := 1#32
  let v1566 : BitVec 32 := Scalar.muli v1391 c1_i32_1537
  let v1567 : BitVec 32 := Scalar.addi c0_i32_1538 v1566
  v1567.toNat
def k0_dev107 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1335 : BitVec 32 := 1#32
  let v1392 : BitVec 32 := Scalar.addi v2 c1_i32_1335
  let c13_i32_1336 : BitVec 32 := 13#32
  let v1393 : BitVec 32 := Scalar.addi v1392 c13_i32_1336
  let c32_i32_1337 : BitVec 32 := 32#32
  let v1394 : BitVec 32 := Scalar.remsi v1393 c32_i32_1337
  let c1_i32_1549 : BitVec 32 := 1#32
  let v1576 : BitVec 32 := Scalar.muli v1394 c1_i32_1549
  let v1577 : BitVec 32 := Scalar.addi c0_i32_1550 v1576
  v1577.toNat
def k0_dev108 (d0 : Dev nD) : Nat :=
  let c0_i32_1562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1338 : BitVec 32 := 1#32
  let v1395 : BitVec 32 := Scalar.addi v2 c1_i32_1338
  let c14_i32_1339 : BitVec 32 := 14#32
  let v1396 : BitVec 32 := Scalar.addi v1395 c14_i32_1339
  let c32_i32_1340 : BitVec 32 := 32#32
  let v1397 : BitVec 32 := Scalar.remsi v1396 c32_i32_1340
  let c1_i32_1561 : BitVec 32 := 1#32
  let v1586 : BitVec 32 := Scalar.muli v1397 c1_i32_1561
  let v1587 : BitVec 32 := Scalar.addi c0_i32_1562 v1586
  v1587.toNat
def k0_dev109 (d0 : Dev nD) : Nat :=
  let c0_i32_1574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1341 : BitVec 32 := 1#32
  let v1398 : BitVec 32 := Scalar.addi v2 c1_i32_1341
  let c15_i32_1342 : BitVec 32 := 15#32
  let v1399 : BitVec 32 := Scalar.addi v1398 c15_i32_1342
  let c32_i32_1343 : BitVec 32 := 32#32
  let v1400 : BitVec 32 := Scalar.remsi v1399 c32_i32_1343
  let c1_i32_1573 : BitVec 32 := 1#32
  let v1596 : BitVec 32 := Scalar.muli v1400 c1_i32_1573
  let v1597 : BitVec 32 := Scalar.addi c0_i32_1574 v1596
  v1597.toNat
def k0_dev110 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1344 : BitVec 32 := 1#32
  let v1401 : BitVec 32 := Scalar.addi v2 c1_i32_1344
  let c16_i32_1345 : BitVec 32 := 16#32
  let v1402 : BitVec 32 := Scalar.addi v1401 c16_i32_1345
  let c32_i32_1346 : BitVec 32 := 32#32
  let v1403 : BitVec 32 := Scalar.remsi v1402 c32_i32_1346
  let c1_i32_1585 : BitVec 32 := 1#32
  let v1606 : BitVec 32 := Scalar.muli v1403 c1_i32_1585
  let v1607 : BitVec 32 := Scalar.addi c0_i32_1586 v1606
  v1607.toNat
def k0_dev111 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1347 : BitVec 32 := 1#32
  let v1404 : BitVec 32 := Scalar.addi v2 c1_i32_1347
  let c17_i32_1348 : BitVec 32 := 17#32
  let v1405 : BitVec 32 := Scalar.addi v1404 c17_i32_1348
  let c32_i32_1349 : BitVec 32 := 32#32
  let v1406 : BitVec 32 := Scalar.remsi v1405 c32_i32_1349
  let c1_i32_1597 : BitVec 32 := 1#32
  let v1616 : BitVec 32 := Scalar.muli v1406 c1_i32_1597
  let v1617 : BitVec 32 := Scalar.addi c0_i32_1598 v1616
  v1617.toNat
def k0_dev112 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1350 : BitVec 32 := 1#32
  let v1407 : BitVec 32 := Scalar.addi v2 c1_i32_1350
  let c18_i32_1351 : BitVec 32 := 18#32
  let v1408 : BitVec 32 := Scalar.addi v1407 c18_i32_1351
  let c32_i32_1352 : BitVec 32 := 32#32
  let v1409 : BitVec 32 := Scalar.remsi v1408 c32_i32_1352
  let c1_i32_1609 : BitVec 32 := 1#32
  let v1626 : BitVec 32 := Scalar.muli v1409 c1_i32_1609
  let v1627 : BitVec 32 := Scalar.addi c0_i32_1610 v1626
  v1627.toNat
def k0_dev113 (d0 : Dev nD) : Nat :=
  let c0_i32_1622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1353 : BitVec 32 := 1#32
  let v1410 : BitVec 32 := Scalar.addi v2 c1_i32_1353
  let c19_i32_1354 : BitVec 32 := 19#32
  let v1411 : BitVec 32 := Scalar.addi v1410 c19_i32_1354
  let c32_i32_1355 : BitVec 32 := 32#32
  let v1412 : BitVec 32 := Scalar.remsi v1411 c32_i32_1355
  let c1_i32_1621 : BitVec 32 := 1#32
  let v1636 : BitVec 32 := Scalar.muli v1412 c1_i32_1621
  let v1637 : BitVec 32 := Scalar.addi c0_i32_1622 v1636
  v1637.toNat
def k0_dev114 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1356 : BitVec 32 := 1#32
  let v1413 : BitVec 32 := Scalar.addi v2 c1_i32_1356
  let c20_i32_1357 : BitVec 32 := 20#32
  let v1414 : BitVec 32 := Scalar.addi v1413 c20_i32_1357
  let c32_i32_1358 : BitVec 32 := 32#32
  let v1415 : BitVec 32 := Scalar.remsi v1414 c32_i32_1358
  let c1_i32_1633 : BitVec 32 := 1#32
  let v1646 : BitVec 32 := Scalar.muli v1415 c1_i32_1633
  let v1647 : BitVec 32 := Scalar.addi c0_i32_1634 v1646
  v1647.toNat
def k0_dev115 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1359 : BitVec 32 := 1#32
  let v1416 : BitVec 32 := Scalar.addi v2 c1_i32_1359
  let c21_i32_1360 : BitVec 32 := 21#32
  let v1417 : BitVec 32 := Scalar.addi v1416 c21_i32_1360
  let c32_i32_1361 : BitVec 32 := 32#32
  let v1418 : BitVec 32 := Scalar.remsi v1417 c32_i32_1361
  let c1_i32_1645 : BitVec 32 := 1#32
  let v1656 : BitVec 32 := Scalar.muli v1418 c1_i32_1645
  let v1657 : BitVec 32 := Scalar.addi c0_i32_1646 v1656
  v1657.toNat
def k0_dev116 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1362 : BitVec 32 := 1#32
  let v1419 : BitVec 32 := Scalar.addi v2 c1_i32_1362
  let c22_i32_1363 : BitVec 32 := 22#32
  let v1420 : BitVec 32 := Scalar.addi v1419 c22_i32_1363
  let c32_i32_1364 : BitVec 32 := 32#32
  let v1421 : BitVec 32 := Scalar.remsi v1420 c32_i32_1364
  let c1_i32_1657 : BitVec 32 := 1#32
  let v1666 : BitVec 32 := Scalar.muli v1421 c1_i32_1657
  let v1667 : BitVec 32 := Scalar.addi c0_i32_1658 v1666
  v1667.toNat
def k0_dev117 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1365 : BitVec 32 := 1#32
  let v1422 : BitVec 32 := Scalar.addi v2 c1_i32_1365
  let c23_i32_1366 : BitVec 32 := 23#32
  let v1423 : BitVec 32 := Scalar.addi v1422 c23_i32_1366
  let c32_i32_1367 : BitVec 32 := 32#32
  let v1424 : BitVec 32 := Scalar.remsi v1423 c32_i32_1367
  let c1_i32_1669 : BitVec 32 := 1#32
  let v1676 : BitVec 32 := Scalar.muli v1424 c1_i32_1669
  let v1677 : BitVec 32 := Scalar.addi c0_i32_1670 v1676
  v1677.toNat
def k0_dev118 (d0 : Dev nD) : Nat :=
  let c0_i32_1682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1368 : BitVec 32 := 1#32
  let v1425 : BitVec 32 := Scalar.addi v2 c1_i32_1368
  let c24_i32_1369 : BitVec 32 := 24#32
  let v1426 : BitVec 32 := Scalar.addi v1425 c24_i32_1369
  let c32_i32_1370 : BitVec 32 := 32#32
  let v1427 : BitVec 32 := Scalar.remsi v1426 c32_i32_1370
  let c1_i32_1681 : BitVec 32 := 1#32
  let v1686 : BitVec 32 := Scalar.muli v1427 c1_i32_1681
  let v1687 : BitVec 32 := Scalar.addi c0_i32_1682 v1686
  v1687.toNat
def k0_dev119 (d0 : Dev nD) : Nat :=
  let c0_i32_1694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1371 : BitVec 32 := 1#32
  let v1428 : BitVec 32 := Scalar.addi v2 c1_i32_1371
  let c25_i32_1372 : BitVec 32 := 25#32
  let v1429 : BitVec 32 := Scalar.addi v1428 c25_i32_1372
  let c32_i32_1373 : BitVec 32 := 32#32
  let v1430 : BitVec 32 := Scalar.remsi v1429 c32_i32_1373
  let c1_i32_1693 : BitVec 32 := 1#32
  let v1696 : BitVec 32 := Scalar.muli v1430 c1_i32_1693
  let v1697 : BitVec 32 := Scalar.addi c0_i32_1694 v1696
  v1697.toNat
def k0_dev120 (d0 : Dev nD) : Nat :=
  let c0_i32_1706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1374 : BitVec 32 := 1#32
  let v1431 : BitVec 32 := Scalar.addi v2 c1_i32_1374
  let c26_i32_1375 : BitVec 32 := 26#32
  let v1432 : BitVec 32 := Scalar.addi v1431 c26_i32_1375
  let c32_i32_1376 : BitVec 32 := 32#32
  let v1433 : BitVec 32 := Scalar.remsi v1432 c32_i32_1376
  let c1_i32_1705 : BitVec 32 := 1#32
  let v1706 : BitVec 32 := Scalar.muli v1433 c1_i32_1705
  let v1707 : BitVec 32 := Scalar.addi c0_i32_1706 v1706
  v1707.toNat
def k0_dev121 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1377 : BitVec 32 := 1#32
  let v1434 : BitVec 32 := Scalar.addi v2 c1_i32_1377
  let c27_i32_1378 : BitVec 32 := 27#32
  let v1435 : BitVec 32 := Scalar.addi v1434 c27_i32_1378
  let c32_i32_1379 : BitVec 32 := 32#32
  let v1436 : BitVec 32 := Scalar.remsi v1435 c32_i32_1379
  let c1_i32_1717 : BitVec 32 := 1#32
  let v1716 : BitVec 32 := Scalar.muli v1436 c1_i32_1717
  let v1717 : BitVec 32 := Scalar.addi c0_i32_1718 v1716
  v1717.toNat
def k0_dev122 (d0 : Dev nD) : Nat :=
  let c0_i32_1730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1380 : BitVec 32 := 1#32
  let v1437 : BitVec 32 := Scalar.addi v2 c1_i32_1380
  let c28_i32_1381 : BitVec 32 := 28#32
  let v1438 : BitVec 32 := Scalar.addi v1437 c28_i32_1381
  let c32_i32_1382 : BitVec 32 := 32#32
  let v1439 : BitVec 32 := Scalar.remsi v1438 c32_i32_1382
  let c1_i32_1729 : BitVec 32 := 1#32
  let v1726 : BitVec 32 := Scalar.muli v1439 c1_i32_1729
  let v1727 : BitVec 32 := Scalar.addi c0_i32_1730 v1726
  v1727.toNat
def k0_dev123 (d0 : Dev nD) : Nat :=
  let c0_i32_1742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1383 : BitVec 32 := 1#32
  let v1440 : BitVec 32 := Scalar.addi v2 c1_i32_1383
  let c29_i32_1384 : BitVec 32 := 29#32
  let v1441 : BitVec 32 := Scalar.addi v1440 c29_i32_1384
  let c32_i32_1385 : BitVec 32 := 32#32
  let v1442 : BitVec 32 := Scalar.remsi v1441 c32_i32_1385
  let c1_i32_1741 : BitVec 32 := 1#32
  let v1736 : BitVec 32 := Scalar.muli v1442 c1_i32_1741
  let v1737 : BitVec 32 := Scalar.addi c0_i32_1742 v1736
  v1737.toNat
def k0_dev124 (d0 : Dev nD) : Nat :=
  let c0_i32_1754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1386 : BitVec 32 := 1#32
  let v1443 : BitVec 32 := Scalar.addi v2 c1_i32_1386
  let c30_i32_1387 : BitVec 32 := 30#32
  let v1444 : BitVec 32 := Scalar.addi v1443 c30_i32_1387
  let c32_i32_1388 : BitVec 32 := 32#32
  let v1445 : BitVec 32 := Scalar.remsi v1444 c32_i32_1388
  let c1_i32_1753 : BitVec 32 := 1#32
  let v1746 : BitVec 32 := Scalar.muli v1445 c1_i32_1753
  let v1747 : BitVec 32 := Scalar.addi c0_i32_1754 v1746
  v1747.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x256 : Shape := ⟨2, ![32768, 256]⟩
abbrev S256x128 : Shape := ⟨2, ![256, 128]⟩
abbrev S32768x1 : Shape := ⟨2, ![32768, 1]⟩
abbrev S128x256x512 : Shape := ⟨3, ![128, 256, 512]⟩
abbrev S128 : Shape := ⟨1, ![128]⟩
abbrev S1x128 : Shape := ⟨2, ![1, 128]⟩
abbrev S32768x128 : Shape := ⟨2, ![32768, 128]⟩
abbrev S_ : Shape := ⟨0, ![]⟩
abbrev S32768 : Shape := ⟨1, ![32768]⟩
abbrev S32768x256x512 : Shape := ⟨3, ![32768, 256, 512]⟩
abbrev S32768x512 : Shape := ⟨2, ![32768, 512]⟩

abbrev nBuf : Space → Nat
  | .hbm => 39
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S256x128, .bf16⟩
  | .hbm, ⟨2, _⟩ => ⟨S32768x1, .i32⟩
  | .hbm, ⟨3, _⟩ => ⟨S128x256x512, .bf16⟩
  | .hbm, ⟨4, _⟩ => ⟨S128, .i32⟩
  | .hbm, ⟨5, _⟩ => ⟨S1x128, .i32⟩
  | .hbm, ⟨6, _⟩ => ⟨S32768x128, .i32⟩
  | .hbm, ⟨7, _⟩ => ⟨S32768x128, .i32⟩
  | .hbm, ⟨8, _⟩ => ⟨S32768x128, .i1⟩
  | .hbm, ⟨9, _⟩ => ⟨S32768x128, .i32⟩
  | .hbm, ⟨10, _⟩ => ⟨S_, .i32⟩
  | .hbm, ⟨11, _⟩ => ⟨S_, .i32⟩
  | .hbm, ⟨12, _⟩ => ⟨S32768x128, .i32⟩
  | .hbm, ⟨13, _⟩ => ⟨S32768x128, .i32⟩
  | .hbm, ⟨14, _⟩ => ⟨S32768x128, .i32⟩
  | .hbm, ⟨15, _⟩ => ⟨S_, .i32⟩
  | .hbm, ⟨16, _⟩ => ⟨S32768, .i32⟩
  | .hbm, ⟨17, _⟩ => ⟨S32768x1, .i32⟩
  | .hbm, ⟨18, _⟩ => ⟨S128x256x512, .f32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768x1, .i32⟩
  | .hbm, ⟨28, _⟩ => ⟨S32768x256x512, .f32⟩
  | .hbm, ⟨29, _⟩ => ⟨S32768x256, .f32⟩
  | .hbm, ⟨30, _⟩ => ⟨S32768x512, .f32⟩
  | .hbm, ⟨31, _⟩ => ⟨S_, .i32⟩
  | .hbm, ⟨32, _⟩ => ⟨S32768x1, .i32⟩
  | .hbm, ⟨33, _⟩ => ⟨S32768x1, .i1⟩
  | .hbm, ⟨34, _⟩ => ⟨S_, .f32⟩
  | .hbm, ⟨35, _⟩ => ⟨S_, .f32⟩
  | .hbm, ⟨36, _⟩ => ⟨S32768x512, .i1⟩
  | .hbm, ⟨37, _⟩ => ⟨S32768x512, .f32⟩
  | .hbm, ⟨38, _⟩ => ⟨S32768x512, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Program.lean ====
/-
# The kernel's program, told in short

The kernel prints every one of its 31 signals, 93 copies and 93 waits as a line of its own. Here the same program is
written with one step for each KIND of line and a recursion over the 31 peers (`each`), and `body_eq` states that the
printed program is this one. Everything that follows reasons about the short form.

Names: `xM`, `iM`, `wM`, `oM` are the staged blocks of tokens, routes, weights and results; `sM` and `rM` the buffers
tokens are sent from and land in, `yM` and `zM` those of the computed rows, `hM` the table of histograms. A buffer has
32 slots: slot `j < 31` belongs to one peer, slot 31 to the device itself.
-/
module

public import proofs.«01_k».proof.Proof.Gen.KernelIdeal.Skeleton
public import proofs.«01_k».proof.Proof.Gen.KernelIdeal.Launch
public import Idealize.ShloMosaic.Lib.Tactic

@[expose] public section

noncomputable section

namespace Cert.Moe

open Cert.KernelIdeal Cert.KernelIdeal.Gen
open Idealize.ShloMosaic
open Idealize.ShloMosaic.TcCoe
open Idealize.SL.Sem

variable {F : FTy → Type} [FloatOps F]

/-! ## The buffers and semaphores -/

abbrev xM : Memref sig .tc .vmem S1024x256 .bf16 := Memref.whole cc0_stg0_0
abbrev iM : Memref sig .tc .vmem S1024x1 .i32 := Memref.whole cc0_stg1_0
abbrev wM : Memref sig .tc .vmem S4x256x512 .bf16 := Memref.whole cc0_stg2_0
abbrev oM : Memref sig .tc .vmem S1024x512 .f32 := Memref.whole cc0_stg3_0
abbrev sM : Memref sig .tc .vmem S32x4x40x256 .bf16 := Memref.whole cc0_scratch0
abbrev rM : Memref sig .tc .vmem S32x4x40x256 .bf16 := Memref.whole cc0_scratch1
abbrev yM : Memref sig .tc .vmem S32x4x40x512 .bf16 := Memref.whole cc0_scratch2
abbrev zM : Memref sig .tc .vmem S32x4x40x512 .bf16 := Memref.whole cc0_scratch3
abbrev hM : Memref sig .tc .vmem S32x128 .i32 := Memref.whole cc0_scratch4

/-- The slot a device's `r`-th peer reads its copies into: `30 - r`. -/
def back (r : Fin 31) : Fin 31 := ⟨30 - r.val, by omega⟩
/-- A peer's slot among the 32. -/
def slot (r : Fin 31) : Fin 32 := ⟨r.val, by omega⟩
/-- The device's own slot. -/
def own : Fin 32 := ⟨31, by omega⟩

theorem back_back (r : Fin 31) : back (back r) = r := by revert r; decide
theorem back_inj {r s : Fin 31} (h : back r = back s) : r = s := by
  rw [← back_back r, h, back_back]

theorem inbH (j : Fin 32) : ∀ a, (![j.val, 0] : Fin 2 → Nat) a + S1x128.size a ≤ S32x128.size a := by
  revert j; decide
theorem inbD (j : Fin 32) : ∀ a, (![j.val, 0, 0, 0] : Fin 4 → Nat) a + S1x4x40x256.size a ≤ S32x4x40x256.size a := by
  revert j; decide
theorem inbY (j : Fin 32) : ∀ a, (![j.val, 0, 0, 0] : Fin 4 → Nat) a + S1x4x40x512.size a ≤ S32x4x40x512.size a := by
  revert j; decide
theorem inbS (r : Fin 31) : ∀ a, (![r.val] : Fin 1 → Nat) a + S1.size a ≤ S31.size a := by revert r; decide

/-- One row of the histograms' table. -/
abbrev rectH (j : Fin 32) : Rect S32x128 := Rect.unit (s := S32x128) ![j.val, 0] S1x128.size (inbH j)
/-- One slot of a buffer of token rows. -/
abbrev rectD (j : Fin 32) : Rect S32x4x40x256 :=
  Rect.unit (s := S32x4x40x256) ![j.val, 0, 0, 0] S1x4x40x256.size (inbD j)
/-- One slot of a buffer of computed rows. -/
abbrev rectY (j : Fin 32) : Rect S32x4x40x512 :=
  Rect.unit (s := S32x4x40x512) ![j.val, 0, 0, 0] S1x4x40x512.size (inbY j)

theorem wordsD (j : Fin 32) : (rectD j).WholeWords (EltTy.packing .bf16) := by revert j; decide
theorem wordsY (j : Fin 32) : (rectY j).WholeWords (EltTy.packing .bf16) := by revert j; decide

abbrev hRow (j : Fin 32) : Memref sig .tc .vmem S128 .i32 :=
  (hM.slice (rectH j) (fun _ => rfl)).squeeze S128 squeezes_S1x128_S128
abbrev dSlot (M : Memref sig .tc .vmem S32x4x40x256 .bf16) (j : Fin 32) : Memref sig .tc .vmem S4x40x256 .bf16 :=
  (M.slice (rectD j) (fun _ => rfl)).squeeze S4x40x256 squeezes_S1x4x40x256_S4x40x256
abbrev ySlot (M : Memref sig .tc .vmem S32x4x40x512 .bf16) (j : Fin 32) : Memref sig .tc .vmem S4x40x512 .bf16 :=
  (M.slice (rectY j) (fun _ => rfl)).squeeze S4x40x512 squeezes_S1x4x40x512_S4x40x512

theorem exactH (j : Fin 32) : (hRow j).view.WordExact := (View.wordExact_bits rfl).reshape _ _
theorem exactD {M : Memref sig .tc .vmem S32x4x40x256 .bf16} (h : M.IsWhole) (j : Fin 32) :
    (dSlot M j).view.WordExact := (h.wordExact_slice rfl _ (wordsD j)).reshape _ _
theorem exactY {M : Memref sig .tc .vmem S32x4x40x512 .bf16} (h : M.IsWhole) (j : Fin 32) :
    (ySlot M j).view.WordExact := (h.wordExact_slice rfl _ (wordsY j)).reshape _ _

/-- The 31 slots of the peers, as one piece: what a wait for all copies names. -/
abbrev rectD31 : Rect S32x4x40x256 :=
  Rect.unit (s := S32x4x40x256) ![0, 0, 0, 0] S31x4x40x256.size inb_S32x4x40x256_S31x4x40x256_0_0_0_0
abbrev rectY31 : Rect S32x4x40x512 :=
  Rect.unit (s := S32x4x40x512) ![0, 0, 0, 0] S31x4x40x512.size inb_S32x4x40x512_S31x4x40x512_0_0_0_0
abbrev rM31 : Memref sig .tc .vmem S31x4x40x256 .bf16 := rM.slice rectD31 (fun _ => rfl)
abbrev zM31 : Memref sig .tc .vmem S31x4x40x512 .bf16 := zM.slice rectY31 (fun _ => rfl)

/-- The barrier's semaphore. -/
abbrev barS := ((SemArray.scalar (sig.barrier 0 rfl) : Sems sig S_)).sem
/-- The semaphores a sender counts its own copies on, one each. -/
abbrev sendS (A : DmaSems sig S31) (r : Fin 31) : DmaSems sig S_ :=
  (A.slice (Rect.unit (s := S31) ![r.val] S1.size (inbS r))).squeeze S_ squeezes_S1_S_
/-- The semaphore all copies of one kind land on. -/
abbrev recvS (A : DmaSems sig S1) : DmaSems sig S_ :=
  (A.slice (Rect.unit (s := S1) ![0] S1.size inb_S1_S1_0)).squeeze S_ squeezes_S1_S_

/-! ## Which device is meant -/

/-- The `r`-th peer of device `c`, going up from it around the circle of 32. -/
def peer (c : Dev nD) (j : Fin 32) : Dev nD := ⟨(c.val + 1 + j.val) % 32, Nat.mod_lt _ (by decide)⟩

/-- The place of a device as the kernel's words compute it. -/
def meW (c : Dev nD) : BitVec 32 := Scalar.remsi (Scalar.divsi (Dev.word c) 1#32) 32#32

/-- The device a signal or copy names, as the kernel's words compute it. -/
def peerN (c : Dev nD) (r : Fin 31) : Nat :=
  (Scalar.addi 0#32 (Scalar.muli (Scalar.remsi (Scalar.addi (Scalar.addi (meW c) 1#32) (BitVec.ofNat 32 r.val)) 32#32) 1#32)).toNat

theorem peerN_eq (c : Dev nD) (r : Fin 31) : peerN c r = (peer c (slot r)).val := by
  revert c r; decide +kernel

theorem peerN_lt (c : Dev nD) (r : Fin 31) : peerN c r < nD := by rw [peerN_eq]; exact (peer c (slot r)).isLt

/-- The device named by the kernel's words. -/
def peerW (c : Dev nD) (r : Fin 31) : Dev nD := ⟨peerN c r, peerN_lt c r⟩

theorem peerW_eq (c : Dev nD) (r : Fin 31) : peerW c r = peer c (slot r) := Fin.ext (peerN_eq c r)

/-! ## The program -/

/-- A program of the kernel's. -/
abbrev P (F : FTy → Type) (α : Type) : Type 1 := Prog (TpuEff nD τ sig (Elt F) Λ₀ .tc) α

/-- `f 0`, `f 1`, …, `f 30` one after the other, written from the last `n` of them on. -/
def each (f : Fin 31 → P F PUnit) : (n : ℕ) → n ≤ 31 → P F PUnit → P F PUnit
  | 0, _, k => k
  | n + 1, h, k => (f ⟨30 - n, by omega⟩).bind fun _ => each f n (by omega) k

/-- All 31 of them, then `k`. -/
abbrev all (f : Fin 31 → P F PUnit) (k : P F PUnit) : P F PUnit := each f 31 (le_refl 31) k

/-- Tell the `r`-th peer this device has arrived. -/
def sig1 (c : Dev nD) (r : Fin 31) : P F PUnit := semSignalWord (peerW c r) barS 1#32

/-- Send the own histogram to the `r`-th peer. -/
def copyH (c : Dev nD) (r : Fin 31) : P F PUnit :=
  Prog.lift (.enqueueDma (hRow own) (.remote (Dev.tc (peerW c r)) (hRow (slot (back r))) (.dma (sendS cc0_scratch5 r).sem))
    (.dma (recvS cc0_scratch8).sem) (exactH own) (exactH _) ⟨⟨rfl, Or.inl rfl⟩, trivial⟩)
/-- Send the tokens meant for the `r`-th peer's experts. -/
def copyD (c : Dev nD) (r : Fin 31) : P F PUnit :=
  Prog.lift (.enqueueDma (dSlot sM (slot r)) (.remote (Dev.tc (peerW c r)) (dSlot rM (slot (back r))) (.dma (sendS cc0_scratch6 r).sem))
    (.dma (recvS cc0_scratch9).sem) (exactD (Memref.isWhole_whole _) _) (exactD (Memref.isWhole_whole _) _) ⟨⟨rfl, Or.inl rfl⟩, trivial⟩)
/-- Send back the rows computed for the `r`-th peer. -/
def copyY (c : Dev nD) (r : Fin 31) : P F PUnit :=
  Prog.lift (.enqueueDma (ySlot yM (slot r)) (.remote (Dev.tc (peerW c r)) (ySlot zM (slot (back r))) (.dma (sendS cc0_scratch7 r).sem))
    (.dma (recvS cc0_scratch10).sem) (exactY (Memref.isWhole_whole _) _) (exactY (Memref.isWhole_whole _) _) ⟨⟨rfl, Or.inl rfl⟩, trivial⟩)

/-- Wait for one histogram. -/
def waitH (r : Fin 31) : P F PUnit :=
  Prog.lift (.waitDma2 (recvS cc0_scratch8).sem (hRow (slot r)) (hRow (slot r)) (exactH _) (exactH _))
/-- Wait for all token rows. -/
def waitD : P F PUnit :=
  Prog.lift (.waitDma2 (recvS cc0_scratch9).sem rM31 rM31
    ((Memref.isWhole_whole _).wordExact_slice rfl _ wordsbf16_S32x4x40x256_S31x4x40x256_0_0_0_0)
    ((Memref.isWhole_whole _).wordExact_slice rfl _ wordsbf16_S32x4x40x256_S31x4x40x256_0_0_0_0))
/-- Wait for all computed rows. -/
def waitY : P F PUnit :=
  Prog.lift (.waitDma2 (recvS cc0_scratch10).sem zM31 zM31
    ((Memref.isWhole_whole _).wordExact_slice rfl _ wordsbf16_S32x4x40x512_S31x4x40x512_0_0_0_0)
    ((Memref.isWhole_whole _).wordExact_slice rfl _ wordsbf16_S32x4x40x512_S31x4x40x512_0_0_0_0))
/-- Wait until the `r`-th histogram has left. -/
def doneH (r : Fin 31) : P F PUnit :=
  Prog.lift (.waitDma2 (sendS cc0_scratch5 r).sem (hRow (slot (back r))) (hRow own) (exactH _) (exactH _))
/-- Wait until the `r`-th token rows have left. -/
def doneD (r : Fin 31) : P F PUnit :=
  Prog.lift (.waitDma2 (sendS cc0_scratch6 r).sem (dSlot rM (slot (back r))) (dSlot sM (slot r))
    (exactD (Memref.isWhole_whole _) _) (exactD (Memref.isWhole_whole _) _))
/-- Wait until the `r`-th computed rows have left. -/
def doneY (r : Fin 31) : P F PUnit :=
  Prog.lift (.waitDma2 (sendS cc0_scratch7 r).sem (ySlot zM (slot (back r))) (ySlot yM (slot r))
    (exactY (Memref.isWhole_whole _) _) (exactY (Memref.isWhole_whole _) _))

/-- The computed rows of the device's `s`-th expert, for all 32 slots. -/
abbrev rectC (s : Fin 4) : Rect S32x4x40x256 :=
  Rect.unit (s := S32x4x40x256) ![0, s.val, 0, 0] S32x1x40x256.size (by revert s; decide)
abbrev rectE (s : Fin 4) : Rect S32x4x40x512 :=
  Rect.unit (s := S32x4x40x512) ![0, s.val, 0, 0] S32x1x40x512.size (by revert s; decide)

theorem packedD (j : Fin 32) : (rectD j).PackedRows (EltTy.packing .bf16) := by revert j; decide
theorem packedE (s : Fin 4) : (rectE s).PackedRows (EltTy.packing .bf16) := by revert s; decide

/-- Store what the `s`-th expert computes, having read what stood there. -/
def putY (s : Fin 4) (v : Vec F S32x1x40x512 .bf16) (k : P F PUnit) : P F PUnit :=
  (Prog.lift (.load yM (rectE s).toLoadRect (View.loadsAt_vmem h_S32x1x40x512))).bind fun _ =>
  (Prog.lift (.store yM (rectE s) v Finset.univ (View.stores_vmem h_S32x1x40x512
    ((Memref.isWhole_whole _).storeExact_slice rfl _ (packedE s)) (fun _ => rfl)) (.inl rfl))).bind fun _ => k
/-- Read the rows landed for the `s`-th expert. -/
def getR (s : Fin 4) (k : Vec F S32x1x40x256 .bf16 → P F PUnit) : P F PUnit :=
  (Prog.lift (.load rM (rectC s).toLoadRect (View.loadsAt_vmem h_S32x1x40x256))).bind k

/-- The whole program. -/
def prog : P F PUnit :=
  (Prog.lift .deviceId).bind fun c =>
  all (sig1 c) <|
  (semWaitWord barS 31#32).bind fun _ =>
  (Prog.lift (.load xM (Rect.unit (s := S1024x256) ![0, 0] S1024x256.size inb_S1024x256_S1024x256_0_0).toLoadRect (View.loadsAt_vmem h_S1024x256))).bind fun x =>
  (Prog.lift (.load iM (Rect.unit (s := S1024x1) ![0, 0] S1024x1.size inb_S1024x1_S1024x1_0_0).toLoadRect (View.loadsAt_vmem h_S1024x1))).bind fun i =>
  (Prog.lift (.load hM (rectH own).toLoadRect (View.loadsAt_vmem h_S1x128))).bind fun _ =>
  (Prog.lift (.store hM (rectH own) (k0_pay4 i) Finset.univ (View.stores_vmem_bits_univ h_S1x128 rfl) (.inl rfl))).bind fun _ =>
  all (copyH c) <|
  (Prog.lift (.load sM (Rect.unit (s := S32x4x40x256) ![0, 0, 0, 0] S32x4x40x256.size inb_S32x4x40x256_S32x4x40x256_0_0_0_0).toLoadRect (View.loadsAt_vmem h_S32x4x40x256))).bind fun _ =>
  (Prog.lift (.store sM (Rect.unit (s := S32x4x40x256) ![0, 0, 0, 0] S32x4x40x256.size inb_S32x4x40x256_S32x4x40x256_0_0_0_0)
    (k0_pay9 (k0_pay1 x) (k0_pay5 (k0_pay2 i)) (k0_pay6 (k0_pay2 i)) (k0_pay7 (meW c) (k0_pay2 i)) 1#32) Finset.univ
    (View.stores_vmem h_S32x4x40x256 ((Memref.isWhole_whole _).storeExact_slice rfl _ packedbf16_S32x4x40x256_S32x4x40x256_0_0_0_0) (fun _ => rfl)) (.inl rfl))).bind fun _ =>
  (Prog.lift (.load sM (rectD own).toLoadRect (View.loadsAt_vmem h_S1x4x40x256))).bind fun s =>
  (Prog.lift (.load rM (rectD own).toLoadRect (View.loadsAt_vmem h_S1x4x40x256))).bind fun _ =>
  (Prog.lift (.store rM (rectD own) (k0_pay10 s) Finset.univ
    (View.stores_vmem h_S1x4x40x256 ((Memref.isWhole_whole _).storeExact_slice rfl _ (packedD own)) (fun _ => rfl)) (.inl rfl))).bind fun _ =>
  all (copyD c) <|
  all waitH <|
  (Prog.lift (.load hM (Rect.unit (s := S32x128) ![0, 0] S31x128.size inb_S32x128_S31x128_0_0).toLoadRect (View.loadsAt_vmem h_S31x128))).bind fun h =>
  (waitD).bind fun _ =>
  (Prog.lift (.load wM (Rect.unit (s := S4x256x512) ![0, 0, 0] S4x256x512.size inb_S4x256x512_S4x256x512_0_0_0).toLoadRect (View.loadsAt_vmem h_S4x256x512))).bind fun w =>
  getR 0 fun r0 => putY 0 (k0_pay14 w r0) <|
  getR 1 fun r1 => putY 1 (k0_pay17 (k0_pay15 r1) (k0_pay16 w)) <|
  getR 2 fun r2 => putY 2 (k0_pay18 (k0_pay13 w) r2) <|
  getR 3 fun r3 => putY 3 (k0_pay19 (k0_pay13 w) r3) <|
  (Prog.lift (.load yM (rectY own).toLoadRect (View.loadsAt_vmem h_S1x4x40x512))).bind fun y =>
  (Prog.lift (.load zM (rectY own).toLoadRect (View.loadsAt_vmem h_S1x4x40x512))).bind fun _ =>
  (Prog.lift (.store zM (rectY own) (k0_pay21 (k0_pay20 y)) Finset.univ
    (View.stores_vmem h_S1x4x40x512 ((Memref.isWhole_whole _).storeExact_slice rfl _ packedbf16_S32x4x40x512_S1x4x40x512_31_0_0_0) (fun _ => rfl)) (.inl rfl))).bind fun _ =>
  all (copyY c) <|
  (waitY).bind fun _ =>
  (Prog.lift (.load zM (Rect.unit (s := S32x4x40x512) ![0, 0, 0, 0] S32x4x40x512.size inb_S32x4x40x512_S32x4x40x512_0_0_0_0).toLoadRect (View.loadsAt_vmem h_S32x4x40x512))).bind fun z =>
  (Prog.lift (.load oM (Rect.unit (s := S1024x512) ![0, 0] S1024x512.size inb_S1024x512_S1024x512_0_0).toLoadRect (View.loadsAt_vmem h_S1024x512))).bind fun _ =>
  (Prog.lift (.store oM (Rect.unit (s := S1024x512) ![0, 0] S1024x512.size inb_S1024x512_S1024x512_0_0)
    (k0_pay22 (k0_pay8 (k0_pay5 (k0_pay2 i)) (k0_pay6 (k0_pay2 i)) (k0_pay7 (meW c) (k0_pay2 i)) 1#32)
      (k0_pay12 (k0_pay5 (k0_pay2 i)) (k0_pay11 (meW c) (k0_pay3 i) h)) z) Finset.univ
    (View.stores_vmem_bits_univ h_S1024x512 rfl) (.inl rfl))).bind fun _ =>
  all doneH <|
  all doneD <|
  all doneY <|
  .ret ⟨⟩

/-- The printed kernel is the short program. -/
theorem body_eq : cc0_body (F := F) xM (Memref.isWhole_whole _) iM (Memref.isWhole_whole _) wM (Memref.isWhole_whole _)
    oM (Memref.isWhole_whole _) sM (Memref.isWhole_whole _) rM (Memref.isWhole_whole _) yM (Memref.isWhole_whole _)
    zM (Memref.isWhole_whole _) hM (Memref.isWhole_whole _) cc0_scratch5 cc0_scratch6 cc0_scratch7 cc0_scratch8
    cc0_scratch9 cc0_scratch10 = prog := by
  sl_kernel_rfl

end Cert.Moe
-- ==== Proof.Contents.lean ====
/-
# What the buffers hold, and their slots

`histB`, `sB`, `rB`, `yB`, `zB` and `outB` say what each buffer of a device holds once it is filled, over the blocks
`X`, `I` and `W` of tokens, routes and weights of all devices. A landed buffer's slot `j` is read off the buffer of the
device it came from, at the slot that device keeps for this one (`rev j`).

The second half cuts a buffer into its 32 slots: the slots of a view are the indices with that first coordinate
(`set_hRow` and its kin), and a copy from one slot to another carries the contents over (`land_H`, `land_D`, `land_Y`).
-/
module

public import proofs.«01_k».proof.Proof.Program
public import Idealize.ShloMosaic.Lib.ValueIdxCore
public import Idealize.ShloMosaic.Lib.ViewIndex
public import Idealize.ShloMosaic.Lib.Pipeline.Value
public import Idealize.ShloMosaic.Lib.Pipeline.ValueKit

@[expose] public section

noncomputable section

namespace Cert.Moe

open Cert.KernelIdeal Cert.KernelIdeal.Gen
open Idealize.ShloMosaic
open Idealize.ShloMosaic.TcCoe
open Idealize.SL.Sem

variable {F : FTy → Type} [FloatOps F]

/-! ## The circle of devices -/

/-- The slot a device has in the buffers of the peer its slot `j` belongs to. -/
def rev (j : Fin 32) : Fin 32 := if j.val = 31 then own else ⟨30 - j.val, by omega⟩

theorem peer_own (c : Dev nD) : peer c own = c := by revert c; decide +kernel
theorem peer_rev (c : Dev nD) (j : Fin 32) : peer (peer c j) (rev j) = c := by revert c j; decide +kernel
theorem rev_own : rev own = own := by decide
theorem rev_rev (j : Fin 32) : rev (rev j) = j := by revert j; decide
theorem rev_slot (r : Fin 31) : rev (slot r) = slot (back r) := by revert r; decide
theorem peer_back (c : Dev nD) (r : Fin 31) : peer (peer c (slot r)) (slot (back r)) = c := by
  rw [← rev_slot, peer_rev]
theorem slot_inj {r s : Fin 31} (h : slot r = slot s) : r = s := by
  apply Fin.ext; have := congrArg Fin.val h; exact this
theorem slot_ne_own (r : Fin 31) : slot r ≠ own := by revert r; decide

/-! ## What the buffers hold -/

section Held

variable (X : Dev nD → Vec F S1024x256 .bf16) (I : Dev nD → Vec F S1024x1 .i32) (W : Dev nD → Vec F S4x256x512 .bf16)
variable (c : Dev nD)

/-- The histograms: row `j` is that of the device slot `j` belongs to. -/
def histB : Vec F S32x128 .i32 := fun i => k0_pay4 (F := F) (I (peer c (i 0))) (ix2 0 (i 1))

/-- The tokens laid out for sending. -/
def sB : Vec F S32x4x40x256 .bf16 :=
  k0_pay9 (k0_pay1 (X c)) (k0_pay5 (k0_pay2 (F := F) (I c))) (k0_pay6 (k0_pay2 (F := F) (I c)))
    (k0_pay7 (meW c) (k0_pay2 (F := F) (I c))) 1#32

/-- The tokens as they have landed. -/
def rB : Vec F S32x4x40x256 .bf16 := fun i => sB X I (peer c (i 0)) (ix4 (rev (i 0)) (i 1) (i 2) (i 3))

/-- Those landed for one of the device's experts. -/
def rC (s : Fin 4) : Vec F S32x1x40x256 .bf16 := fun i => rB X I c (ix4 (i 0) s (i 2) (i 3))

/-- What one of the device's experts makes of them. -/
def yE (s : Fin 4) : Vec F S32x1x40x512 .bf16 := match s with
  | 0 => k0_pay14 (W c) (rC X I c 0)
  | 1 => k0_pay17 (k0_pay15 (rC X I c 1)) (k0_pay16 (W c))
  | 2 => k0_pay18 (k0_pay13 (W c)) (rC X I c 2)
  | 3 => k0_pay19 (k0_pay13 (W c)) (rC X I c 3)

/-- The computed rows. -/
def yB : Vec F S32x4x40x512 .bf16 := fun i => yE X I W c (i 1) (ix4 (i 0) 0 (i 2) (i 3))

/-- The computed rows as they have come back. -/
def zB : Vec F S32x4x40x512 .bf16 := fun i => yB X I W (peer c (i 0)) (ix4 (rev (i 0)) (i 1) (i 2) (i 3))

/-- The histograms of the 31 peers. -/
def hC : Vec F S31x128 .i32 := fun i => histB I c (ix2 (slot (i 0)) (i 1))

/-- The result. -/
def outB : Vec F S1024x512 .f32 :=
  k0_pay22 (k0_pay8 (k0_pay5 (k0_pay2 (F := F) (I c))) (k0_pay6 (k0_pay2 (F := F) (I c)))
      (k0_pay7 (meW c) (k0_pay2 (F := F) (I c))) 1#32)
    (k0_pay12 (k0_pay5 (k0_pay2 (F := F) (I c))) (k0_pay11 (meW c) (k0_pay3 (I c)) (hC I c))) (zB X I W c)

end Held

/-! ## Slots -/

def setH (j : Fin 32) : Finset S32x128.Idx := Finset.univ.filter fun i => (i 0).val = j.val
def setD (j : Fin 32) : Finset S32x4x40x256.Idx := Finset.univ.filter fun i => (i 0).val = j.val
def setY (j : Fin 32) : Finset S32x4x40x512.Idx := Finset.univ.filter fun i => (i 0).val = j.val

theorem mem_setH {j : Fin 32} {i : S32x128.Idx} : i ∈ setH j ↔ (i 0).val = j.val := by simp [setH]
theorem mem_setD {j : Fin 32} {i : S32x4x40x256.Idx} : i ∈ setD j ↔ (i 0).val = j.val := by simp [setD]
theorem mem_setY {j : Fin 32} {i : S32x4x40x512.Idx} : i ∈ setY j ↔ (i 0).val = j.val := by simp [setY]

theorem mem_rectH {j : Fin 32} {i : S32x128.Idx} : i ∈ (rectH j).set ↔ (i 0).val = j.val := by
  rw [Rect.mem_set_unit, Fin.forall_fin_two]
  have := (i 1).isLt
  simp at this ⊢; omega
theorem mem_rectD {j : Fin 32} {i : S32x4x40x256.Idx} : i ∈ (rectD j).set ↔ (i 0).val = j.val := by
  rw [Rect.mem_set_unit]
  refine ⟨fun h => ?_, fun h a => ?_⟩
  · have := h 0; simp at this; omega
  · have h1 := (i a).isLt
    fin_cases a <;> simp at h1 ⊢ <;> omega
theorem mem_rectY {j : Fin 32} {i : S32x4x40x512.Idx} : i ∈ (rectY j).set ↔ (i 0).val = j.val := by
  rw [Rect.mem_set_unit]
  refine ⟨fun h => ?_, fun h a => ?_⟩
  · have := h 0; simp at this; omega
  · have h1 := (i a).isLt
    fin_cases a <;> simp at h1 ⊢ <;> omega

theorem rectH_set (j : Fin 32) : (rectH j).set = setH j := Finset.ext fun i => mem_rectH.trans mem_setH.symm
theorem rectD_set (j : Fin 32) : (rectD j).set = setD j := Finset.ext fun i => mem_rectD.trans mem_setD.symm
theorem rectY_set (j : Fin 32) : (rectY j).set = setY j := Finset.ext fun i => mem_rectY.trans mem_setY.symm

theorem set_hRow (j : Fin 32) : (hRow j).view.set = setH j :=
  (View.set_reshape _ _).trans ((View.set_slice_whole cc0_scratch4 (rectH j)).trans (rectH_set j))
theorem set_sSlot (j : Fin 32) : (dSlot sM j).view.set = setD j :=
  (View.set_reshape _ _).trans ((View.set_slice_whole cc0_scratch0 (rectD j)).trans (rectD_set j))
theorem set_rSlot (j : Fin 32) : (dSlot rM j).view.set = setD j :=
  (View.set_reshape _ _).trans ((View.set_slice_whole cc0_scratch1 (rectD j)).trans (rectD_set j))
theorem set_ySlot (j : Fin 32) : (ySlot yM j).view.set = setY j :=
  (View.set_reshape _ _).trans ((View.set_slice_whole cc0_scratch2 (rectY j)).trans (rectY_set j))
theorem set_zSlot (j : Fin 32) : (ySlot zM j).view.set = setY j :=
  (View.set_reshape _ _).trans ((View.set_slice_whole cc0_scratch3 (rectY j)).trans (rectY_set j))

theorem disj_H {j k : Fin 32} (h : j ≠ k) : Disjoint (setH j) (setH k) :=
  Finset.disjoint_left.mpr fun i hi hk => h (Fin.ext ((mem_setH.mp hi).symm.trans (mem_setH.mp hk)))
theorem disj_D {j k : Fin 32} (h : j ≠ k) : Disjoint (setD j) (setD k) :=
  Finset.disjoint_left.mpr fun i hi hk => h (Fin.ext ((mem_setD.mp hi).symm.trans (mem_setD.mp hk)))
theorem disj_Y {j k : Fin 32} (h : j ≠ k) : Disjoint (setY j) (setY k) :=
  Finset.disjoint_left.mpr fun i hi hk => h (Fin.ext ((mem_setY.mp hi).symm.trans (mem_setY.mp hk)))
theorem cover_H : (Finset.univ : Finset (Fin 32)).biUnion setH = Finset.univ :=
  Finset.eq_univ_of_forall fun i => Finset.mem_biUnion.mpr ⟨i 0, Finset.mem_univ _, mem_setH.mpr rfl⟩
theorem cover_D : (Finset.univ : Finset (Fin 32)).biUnion setD = Finset.univ :=
  Finset.eq_univ_of_forall fun i => Finset.mem_biUnion.mpr ⟨i 0, Finset.mem_univ _, mem_setD.mpr rfl⟩
theorem cover_Y : (Finset.univ : Finset (Fin 32)).biUnion setY = Finset.univ :=
  Finset.eq_univ_of_forall fun i => Finset.mem_biUnion.mpr ⟨i 0, Finset.mem_univ _, mem_setY.mpr rfl⟩

/-! ## Copies between slots -/

/-- An element of a slot sits at the slot's number and its own other coordinates, whatever the slot. -/
theorem emb_hRow (j k : Fin 32) (x : S128.Idx) : (hRow k).view.emb x = ix2 k (((hRow j).view.emb x) 1) := by
  refine (eq_ix2 _).trans ?_
  congr 1
  exact Fin.ext (mem_setH.mp (by rw [← set_hRow]; exact View.emb_mem_set _ x))
theorem emb_dSlot (j k : Fin 32) (y : S1x4x40x256.Idx) :
    (rectD k).emb y = ix4 k (((rectD j).emb y) 1) (((rectD j).emb y) 2) (((rectD j).emb y) 3) := by
  refine (eq_ix4 _).trans ?_
  congr 1
  exact Fin.ext (by simp)
theorem emb_ySlot (j k : Fin 32) (y : S1x4x40x512.Idx) :
    (rectY k).emb y = ix4 k (((rectY j).emb y) 1) (((rectY j).emb y) 2) (((rectY j).emb y) 3) := by
  refine (eq_ix4 _).trans ?_
  congr 1
  exact Fin.ext (by simp)

theorem land_H (j k : Fin 32) (fd fs : Vec F S32x128 .i32) (i : S32x128.Idx) (h : i ∈ setH k) :
    (hRow k).view.write (Elt F) fd ((hRow j).view.read (Elt F) fs) Finset.univ i = fs (ix2 j (i 1)) := by
  rw [← set_hRow] at h
  obtain ⟨x, -, rfl⟩ := Finset.mem_map.mp h
  refine (View.write_emb_of_mem _ _ (Finset.mem_univ x)).trans ?_
  exact congrArg fs (emb_hRow k j x)

theorem land_D (j k : Fin 32) (fd fs : Vec F S32x4x40x256 .bf16) (i : S32x4x40x256.Idx) (h : i ∈ setD k) :
    (dSlot rM k).view.write (Elt F) fd ((dSlot sM j).view.read (Elt F) fs) Finset.univ i
      = fs (ix4 j (i 1) (i 2) (i 3)) := by
  rw [← set_rSlot] at h
  obtain ⟨x, -, rfl⟩ := Finset.mem_map.mp h
  refine (View.write_emb_of_mem _ _ (Finset.mem_univ x)).trans ?_
  exact congrArg fs (emb_dSlot k j _)

theorem land_Y (j k : Fin 32) (fd fs : Vec F S32x4x40x512 .bf16) (i : S32x4x40x512.Idx) (h : i ∈ setY k) :
    (ySlot zM k).view.write (Elt F) fd ((ySlot yM j).view.read (Elt F) fs) Finset.univ i
      = fs (ix4 j (i 1) (i 2) (i 3)) := by
  rw [← set_zSlot] at h
  obtain ⟨x, -, rfl⟩ := Finset.mem_map.mp h
  refine (View.write_emb_of_mem _ _ (Finset.mem_univ x)).trans ?_
  exact congrArg fs (emb_ySlot k j _)

section Held

variable (X : Dev nD → Vec F S1024x256 .bf16) (I : Dev nD → Vec F S1024x1 .i32) (W : Dev nD → Vec F S4x256x512 .bf16)
variable (c : Dev nD) (r : Fin 31)

/-- A histogram landed on a peer is what the peer's table is to hold there. -/
theorem land_histB (fd : Vec F S32x128 .i32) (i : S32x128.Idx) (h : i ∈ setH (slot (back r))) :
    (hRow (slot (back r))).view.write (Elt F) fd ((hRow own).view.read (Elt F) (histB I c)) Finset.univ i
      = histB I (peer c (slot r)) i := by
  rw [land_H own _ fd _ i h]
  have h0 : i 0 = slot (back r) := Fin.ext (mem_setH.mp h)
  show k0_pay4 (F := F) (I (peer c own)) (ix2 0 (i 1)) = k0_pay4 (F := F) (I (peer (peer c (slot r)) (i 0))) (ix2 0 (i 1))
  rw [h0, peer_own, peer_back]

/-- Token rows landed on a peer are what the peer's buffer is to hold there. -/
theorem land_rB (fd : Vec F S32x4x40x256 .bf16) (i : S32x4x40x256.Idx) (h : i ∈ setD (slot (back r))) :
    (dSlot rM (slot (back r))).view.write (Elt F) fd ((dSlot sM (slot r)).view.read (Elt F) (sB X I c)) Finset.univ i
      = rB X I (peer c (slot r)) i := by
  rw [land_D (slot r) _ fd _ i h]
  have h0 : i 0 = slot (back r) := Fin.ext (mem_setD.mp h)
  show _ = sB X I (peer (peer c (slot r)) (i 0)) (ix4 (rev (i 0)) (i 1) (i 2) (i 3))
  rw [h0, peer_back, rev_slot, back_back]

/-- Computed rows landed on a peer are what the peer's buffer is to hold there. -/
theorem land_zB (fd : Vec F S32x4x40x512 .bf16) (i : S32x4x40x512.Idx) (h : i ∈ setY (slot (back r))) :
    (ySlot zM (slot (back r))).view.write (Elt F) fd ((ySlot yM (slot r)).view.read (Elt F) (yB X I W c)) Finset.univ i
      = zB X I W (peer c (slot r)) i := by
  rw [land_Y (slot r) _ fd _ i h]
  have h0 : i 0 = slot (back r) := Fin.ext (mem_setY.mp h)
  show _ = yB X I W (peer (peer c (slot r)) (i 0)) (ix4 (rev (i 0)) (i 1) (i 2) (i 3))
  rw [h0, peer_back, rev_slot, back_back]

/-! ## The device's own slots -/

/-- An index of a rectangle is one of its places. -/
theorem place_H (j : Fin 32) (i : S32x128.Idx) (h : i ∈ setH j) : ∃ y, (rectH j).emb y = i := by
  rw [← rectH_set, ← View.set_slice_whole cc0_scratch4 (rectH j)] at h
  obtain ⟨y, -, h⟩ := Finset.mem_map.mp h
  exact ⟨y, h⟩
theorem place_D (j : Fin 32) (i : S32x4x40x256.Idx) (h : i ∈ setD j) : ∃ y, (rectD j).emb y = i := by
  rw [← rectD_set, ← View.set_slice_whole cc0_scratch1 (rectD j)] at h
  obtain ⟨y, -, h⟩ := Finset.mem_map.mp h
  exact ⟨y, h⟩
theorem place_Y (j : Fin 32) (i : S32x4x40x512.Idx) (h : i ∈ setY j) : ∃ y, (rectY j).emb y = i := by
  rw [← rectY_set, ← View.set_slice_whole cc0_scratch3 (rectY j)] at h
  obtain ⟨y, -, h⟩ := Finset.mem_map.mp h
  exact ⟨y, h⟩

/-- The device's own histogram, as stored. -/
theorem own_histB (f : Vec F S32x128 .i32) (i : S32x128.Idx) (h : i ∈ setH own) :
    ((hM : Memref sig .tc .vmem S32x128 .i32).access (rectH own) : View sig .tc _ _ _).write (Elt F) f
      (k0_pay4 (F := F) (I c)) Finset.univ i = histB I c i := by
  obtain ⟨y, rfl⟩ := place_H own i h
  refine (View.write_emb_of_mem (v := (hM : Memref sig .tc .vmem S32x128 .i32).access (rectH own)) _ _ (Finset.mem_univ y)).trans ?_
  have h0 : ((rectH own).emb y) 0 = own := Fin.ext (by simp)
  show _ = k0_pay4 (F := F) (I (peer c (((rectH own).emb y) 0))) (ix2 0 (((rectH own).emb y) 1))
  rw [h0, peer_own]
  refine congrArg (k0_pay4 (F := F) (I c)) ((eq_ix2 y).trans ?_)
  congr 1
  · exact Subsingleton.elim _ _
  · exact Fin.ext (by simp)

/-- The tokens for the device's own experts, as stored. -/
theorem own_rB (f : Vec F S32x4x40x256 .bf16) (i : S32x4x40x256.Idx) (h : i ∈ setD own) :
    ((rM : Memref sig .tc .vmem S32x4x40x256 .bf16).access (rectD own) : View sig .tc _ _ _).write (Elt F) f
      (k0_pay10 ((sM : Memref sig .tc .vmem S32x4x40x256 .bf16).view.readAt (Elt F) (rectD own).toLoadRect (sB X I c)))
      Finset.univ i = rB X I c i := by
  obtain ⟨y, rfl⟩ := place_D own i h
  refine (View.write_emb_of_mem (v := (rM : Memref sig .tc .vmem S32x4x40x256 .bf16).access (rectD own)) _ _ (Finset.mem_univ y)).trans ?_
  have h0 : ((rectD own).emb y) 0 = own := Fin.ext (by simp)
  show _ = sB X I (peer c (((rectD own).emb y) 0)) (ix4 (rev (((rectD own).emb y) 0)) (((rectD own).emb y) 1) (((rectD own).emb y) 2) (((rectD own).emb y) 3))
  rw [h0, peer_own, rev_own]
  unfold k0_pay10
  rw [shapeCast_shapeCast]
  exact congrArg (sB X I c) (emb_dSlot own own y)

/-- The rows computed for the device's own tokens, as stored. -/
theorem own_zB (f : Vec F S32x4x40x512 .bf16) (i : S32x4x40x512.Idx) (h : i ∈ setY own) :
    ((zM : Memref sig .tc .vmem S32x4x40x512 .bf16).access (rectY own) : View sig .tc _ _ _).write (Elt F) f
      (k0_pay21 (k0_pay20 ((yM : Memref sig .tc .vmem S32x4x40x512 .bf16).view.readAt (Elt F) (rectY own).toLoadRect (yB X I W c))))
      Finset.univ i = zB X I W c i := by
  obtain ⟨y, rfl⟩ := place_Y own i h
  refine (View.write_emb_of_mem (v := (zM : Memref sig .tc .vmem S32x4x40x512 .bf16).access (rectY own)) _ _ (Finset.mem_univ y)).trans ?_
  have h0 : ((rectY own).emb y) 0 = own := Fin.ext (by simp)
  show _ = yB X I W (peer c (((rectY own).emb y) 0)) (ix4 (rev (((rectY own).emb y) 0)) (((rectY own).emb y) 1) (((rectY own).emb y) 2) (((rectY own).emb y) 3))
  rw [h0, peer_own, rev_own]
  unfold k0_pay20 k0_pay21
  rw [shapeCast_shapeCast]
  exact congrArg (yB X I W c) (emb_ySlot own own y)

/-! ## Loads of parts, and the four stores of computed rows -/

theorem read_rC (s : Fin 4) : (rM : Memref sig .tc .vmem S32x4x40x256 .bf16).view.readAt (Elt F) (rectC s).toLoadRect (rB X I c)
    = rC X I c s := by
  funext y
  refine congrArg (rB X I c) ((eq_ix4 _).trans ?_)
  congr 1
  · exact Fin.ext (by simp)
  · exact Fin.ext (by have := (y 1).isLt; simp at this ⊢)
  · exact Fin.ext (by simp)
  · exact Fin.ext (by simp)

theorem read_hC : (hM : Memref sig .tc .vmem S32x128 .i32).view.readAt (Elt F)
      (Rect.unit (s := S32x128) ![0, 0] S31x128.size inb_S32x128_S31x128_0_0).toLoadRect (histB I c) = hC I c := by
  funext y
  refine congrArg (histB I c) ((eq_ix2 _).trans ?_)
  congr 1
  · exact Fin.ext (by simp [slot])
  · exact Fin.ext (by simp)

theorem mem_rectE {s : Fin 4} {i : S32x4x40x512.Idx} : i ∈ (rectE s).set ↔ (i 1).val = s.val := by
  rw [Rect.mem_set_unit]
  refine ⟨fun h => ?_, fun h a => ?_⟩
  · have := h 1; simp at this; omega
  · have h1 := (i a).isLt
    fin_cases a <;> simp at h1 ⊢ <;> omega

/-- One of the four stores. -/
abbrev stE (s : Fin 4) (f : Vec F S32x4x40x512 .bf16) (v : Vec F S32x1x40x512 .bf16) : Vec F S32x4x40x512 .bf16 :=
  ((yM : Memref sig .tc .vmem S32x4x40x512 .bf16).access (rectE s) : View sig .tc _ _ _).write (Elt F) f v Finset.univ

theorem stE_at (s : Fin 4) (f : Vec F S32x4x40x512 .bf16) (v : Vec F S32x1x40x512 .bf16) (i : S32x4x40x512.Idx)
    (h : i 1 = s) : stE s f v i = v (ix4 (i 0) 0 (i 2) (i 3)) := by
  have h' := mem_rectE.mpr (congrArg Fin.val h)
  rw [← View.set_slice_whole cc0_scratch2 (rectE s)] at h'
  obtain ⟨y, -, rfl⟩ := Finset.mem_map.mp h'
  refine (View.write_emb_of_mem _ _ (Finset.mem_univ y)).trans ?_
  refine congrArg v ((eq_ix4 y).trans ?_)
  congr 1
  · exact Fin.ext (by simp)
  · exact Subsingleton.elim _ _
  · exact Fin.ext (by simp)
  · exact Fin.ext (by simp)

theorem stE_off (s : Fin 4) (f : Vec F S32x4x40x512 .bf16) (v : Vec F S32x1x40x512 .bf16) (i : S32x4x40x512.Idx)
    (h : i 1 ≠ s) : stE s f v i = f i :=
  View.write_of_not_mem _ _ _ fun h' => h (Fin.ext (mem_rectE.mp (by
    rw [← View.set_slice_whole cc0_scratch2 (rectE s)]; exact h')))

/-- After the four stores the buffer holds the computed rows. -/
theorem stE_all (f : Vec F S32x4x40x512 .bf16) :
    stE 3 (stE 2 (stE 1 (stE 0 f (yE X I W c 0)) (yE X I W c 1)) (yE X I W c 2)) (yE X I W c 3) = yB X I W c := by
  funext i
  obtain ⟨s, hs⟩ : ∃ s : Fin 4, i 1 = s := ⟨_, rfl⟩
  refine Eq.trans ?_ (congrArg (fun s => yE X I W c s (ix4 (i 0) 0 (i 2) (i 3))) hs.symm)
  have hs' : ∀ s' : Fin 4, s ≠ s' → i 1 ≠ s' := fun s' h h' => h (hs.symm.trans h')
  have key : ∀ s' : Fin 4, s = s' → i 1 = s' := fun s' h => hs.trans h
  match s, hs', key with
  | 0, hs', key =>
    rw [stE_off 3 _ _ i (hs' 3 (by decide)), stE_off 2 _ _ i (hs' 2 (by decide)), stE_off 1 _ _ i (hs' 1 (by decide)), stE_at 0 _ _ i (key 0 rfl)]
  | 1, hs', key =>
    rw [stE_off 3 _ _ i (hs' 3 (by decide)), stE_off 2 _ _ i (hs' 2 (by decide)), stE_at 1 _ _ i (key 1 rfl)]
  | 2, hs', key =>
    rw [stE_off 3 _ _ i (hs' 3 (by decide)), stE_at 2 _ _ i (key 2 rfl)]
  | 3, hs', key =>
    rw [stE_at 3 _ _ i (key 3 rfl)]

end Held

end Cert.Moe
-- ==== Proof.Protocol.lean ====
/-
# The protocol between the devices

Every device has 97 semaphores: its barrier's, three on which copies land (histograms, token rows, computed rows), and
for each of its own 93 copies one that says the copy has left. Each is used for a single round:

* the barrier of a device is raised once by each of its 31 peers, and each peer thereby hands over the slots of its own
  buffers that the device is going to write to;
* a landing semaphore is raised by the 31 copies from the peers, each bringing the slot it filled, holding what
  `histB`, `rB` or `zB` say;
* a leaving semaphore is raised by the one copy, which gives back the slot it was read from.

A duty of a round is named by the slot (0 to 30) of the peer that pays it. A device waits on its barrier first, then
for histograms, token rows and computed rows, in this order, and never waits for something while it owes anything to be
waited for earlier: the levels below say so.
-/
module

public import proofs.«01_k».proof.Proof.Contents
public import Idealize.ShloMosaic.Lib.Pipeline.Launch
public import Idealize.ShloMosaic.Lib.Pipeline.Kit
public import Idealize.ShloMosaic.Lib.ShareLeaves

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The kernel's own semaphores: for each of the three kinds of copies the one they land on (`none`) and those they
    leave on. -/
abbrev Kd : Type := Fin 3 × Option (Fin 31)

abbrev landS (t : Fin 3) : DmaSem sig := match t with
  | 0 => (recvS cc0_scratch8).sem | 1 => (recvS cc0_scratch9).sem | 2 => (recvS cc0_scratch10).sem
abbrev leaveS (t : Fin 3) (r : Fin 31) : DmaSem sig := match t with
  | 0 => (sendS cc0_scratch5 r).sem | 1 => (sendS cc0_scratch6 r).sem | 2 => (sendS cc0_scratch7 r).sem

abbrev osem : Kd → SemLoc sig
  | (t, none) => .dma (landS t)
  | (t, some r) => .dma (leaveS t r)

/-- All of them: `none` is the barrier's. -/
abbrev csem : Option Kd → SemLoc sig
  | none => .reg barS
  | some k => osem k

abbrev kcell (ck : Dev nD × Option Kd) : GSem nD τ sig := ((ck.1 : Thread nD τ), csem ck.2)
abbrev barCell (c : Dev nD) : GSem nD τ sig := ((c : Thread nD τ), .reg barS)
abbrev landCell (t : Fin 3) (c : Dev nD) : GSem nD τ sig := ((c : Thread nD τ), .dma (landS t))
abbrev leaveCell (t : Fin 3) (r : Fin 31) (c : Dev nD) : GSem nD τ sig := ((c : Thread nD τ), .dma (leaveS t r))

theorem ownSemFacts : Pipeline.OwnSemFacts cfg0.spec osem := by decide +kernel

theorem osem_injective : Function.Injective osem := ownSemFacts.inj

theorem csem_injective : Function.Injective csem := by
  rintro (_ | k) (_ | k') h
  · rfl
  · obtain ⟨t, _ | r⟩ := k' <;> cases h
  · obtain ⟨t, _ | r⟩ := k <;> cases h
  · exact congrArg some (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which of the semaphores a semaphore is. -/
def kindOf : SemLoc sig → Option (Option Kd) := Function.partialInv csem

theorem kindOf_csem (k : Option Kd) : kindOf (csem k) = some k := Function.partialInv_left csem_injective k
theorem kindOf_none {s : SemLoc sig} (h : ∀ k, csem k ≠ s) : kindOf s = none :=
  dif_neg fun ⟨k, hk⟩ => h k hk

/-- What one copy of each kind counts. -/
def amt (t : Fin 3) : ℕ := match t with
  | 0 => (hRow own).view.dmaCredit | 1 => (dSlot rM own).view.dmaCredit | 2 => (ySlot zM own).view.dmaCredit

theorem amt_pos (t : Fin 3) : 0 < amt t := by
  match t with
  | 0 => exact View.dmaCredit_pos _ (by decide)
  | 1 => exact View.dmaCredit_pos _ (by decide)
  | 2 => exact View.dmaCredit_pos _ (by decide)

theorem amt_D31 : rM31.view.dmaCredit = 31 * amt 1 := by decide +kernel
theorem amt_Y31 : zM31.view.dmaCredit = 31 * amt 2 := by decide +kernel

/-! ## The slots as resources -/

def hPts (c : Dev nD) (j : Fin 32) (q : PosShare TreeShare) (f : Vec F S32x128 .i32) : sProp 𝕄 :=
  (c : Thread nD τ).loc cc0_scratch4 ↦[setH j]{q} f
def sPts (c : Dev nD) (j : Fin 32) (f : Vec F S32x4x40x256 .bf16) : sProp 𝕄 :=
  (c : Thread nD τ).loc cc0_scratch0 ↦[setD j]{fullShare} f
def rPts (c : Dev nD) (j : Fin 32) (f : Vec F S32x4x40x256 .bf16) : sProp 𝕄 :=
  (c : Thread nD τ).loc cc0_scratch1 ↦[setD j]{fullShare} f
def yPts (c : Dev nD) (j : Fin 32) (f : Vec F S32x4x40x512 .bf16) : sProp 𝕄 :=
  (c : Thread nD τ).loc cc0_scratch2 ↦[setY j]{fullShare} f
def zPts (c : Dev nD) (j : Fin 32) (f : Vec F S32x4x40x512 .bf16) : sProp 𝕄 :=
  (c : Thread nD τ).loc cc0_scratch3 ↦[setY j]{fullShare} f

/-- The share of the own histogram the `r`-th copy reads at. -/
def part (r : Fin 32) : PosShare TreeShare := ShareLeaves.leaf 5 fullShare (finCongr (by norm_num) r)

instance hPts_storable (c : Dev nD) (j q f) : BI.Storable (upEmb : UEmb _ 𝕄) (hPts (F := F) c j q f) := by unfold hPts; infer_instance
instance sPts_storable (c : Dev nD) (j f) : BI.Storable (upEmb : UEmb _ 𝕄) (sPts (F := F) c j f) := by unfold sPts; infer_instance
instance rPts_storable (c : Dev nD) (j f) : BI.Storable (upEmb : UEmb _ 𝕄) (rPts (F := F) c j f) := by unfold rPts; infer_instance
instance yPts_storable (c : Dev nD) (j f) : BI.Storable (upEmb : UEmb _ 𝕄) (yPts (F := F) c j f) := by unfold yPts; infer_instance
instance zPts_storable (c : Dev nD) (j f) : BI.Storable (upEmb : UEmb _ 𝕄) (zPts (F := F) c j f) := by unfold zPts; infer_instance

/-! ## The schedule -/

variable (X : Dev nD → Vec F S1024x256 .bf16) (I : Dev nD → Vec F S1024x1 .i32) (W : Dev nD → Vec F S4x256x512 .bf16)

/-- A slot of the three landing buffers of a device, whatever they hold. -/
def gift (c : Dev nD) (r : Fin 31) : sProp 𝕄 :=
  iprop((∃ f, hPts c (slot r) fullShare f) ∗ (∃ f, rPts c (slot r) f) ∗ (∃ f, zPts c (slot r) f))

/-- What the copy from the peer of slot `d` brings. -/
def landPay (t : Fin 3) (c : Dev nD) (d : Fin 31) : sProp 𝕄 := match t with
  | 0 => hPts c (slot d) fullShare (histB I c) | 1 => rPts c (slot d) (rB X I c) | 2 => zPts c (slot d) (zB X I W c)

/-- What a copy that has left gives back. -/
def leavePay (t : Fin 3) (c : Dev nD) (r : Fin 31) : sProp 𝕄 := match t with
  | 0 => hPts c own (part (slot r)) (histB I c) | 1 => sPts c (slot r) (sB X I c) | 2 => yPts c (slot r) (yB X I W c)

def payOf (k : Option Kd) (c : Dev nD) (d : Fin 31) : sProp 𝕄 := match k with
  | none => gift (peer c (slot d)) (back d)
  | some (t, none) => landPay X I W t c d
  | some (t, some r) => leavePay X I W t c r

def dutiesOf (k : Option Kd) : Finset (Fin 31) := match k with
  | none => Finset.univ
  | some (_, none) => Finset.univ
  | some (_, some _) => {0}

def amtOf (k : Option Kd) : ℕ := match k with
  | none => 1
  | some (t, _) => amt t

theorem amtOf_pos (k : Option Kd) : 0 < amtOf k := by
  rcases k with _ | ⟨t, _⟩
  · exact Nat.one_pos
  · exact amt_pos t

instance payOf_storable (k : Option Kd) (c : Dev nD) (d : Fin 31) :
    BI.Storable (upEmb : UEmb _ 𝕄) (payOf (F := F) X I W k c d) := by
  rcases k with _ | ⟨t, _ | r⟩
  · unfold payOf gift; infer_instance
  · unfold payOf landPay; fin_cases t <;> (dsimp only; infer_instance)
  · unfold payOf leavePay; fin_cases t <;> (dsimp only; infer_instance)

/-- One round, round 0, for each of the semaphores. -/
def rd : Rounds.Schedule (GSem nD τ sig) (Fin 31) 𝕄 where
  duties g r := if r = 0 ∧ g.1.2 = .tc then (kindOf g.2).elim ∅ dutiesOf else ∅
  unitless _ := False
  amount g _ _ := (kindOf g.2).elim 1 amtOf
  payload g _ d := (kindOf g.2).elim iprop(emp) fun k => payOf X I W k g.1.1 d
  amount_pos g _ _ _ := by
    cases kindOf g.2 with
    | none => exact Nat.one_pos
    | some k => exact amtOf_pos k

instance rd_payload_storable (g : GSem nD τ sig) (r : ℕ) (d : Fin 31) :
    BI.Storable (upEmb : UEmb _ 𝕄) ((rd (F := F) X I W).payload g r d) := by
  show BI.Storable upEmb ((kindOf g.2).elim iprop(emp) fun k => payOf X I W k g.1.1 d)
  cases kindOf g.2 with
  | none => dsimp only [Option.elim]; infer_instance
  | some k => dsimp only [Option.elim]; infer_instance

section Sched
variable (c : Dev nD) (k : Option Kd) (d : Fin 31)

theorem duties_eq : (rd (F := F) X I W).duties (kcell (c, k)) 0 = dutiesOf k := by
  show (if (0 : ℕ) = 0 ∧ (kcell (c, k)).1.2 = .tc then (kindOf (csem k)).elim ∅ dutiesOf else ∅) = _
  rw [kindOf_csem]; exact if_pos ⟨rfl, rfl⟩
theorem amount_eq : (rd (F := F) X I W).amount (kcell (c, k)) 0 d = amtOf k := by
  show (kindOf (csem k)).elim 1 amtOf = _
  rw [kindOf_csem]; rfl
theorem payload_eq : (rd (F := F) X I W).payload (kcell (c, k)) 0 d = payOf X I W k c d := by
  show ((kindOf (csem k)).elim iprop(emp) fun k => payOf X I W k c d) = _
  rw [kindOf_csem]; rfl
theorem duties_later (g : GSem nD τ sig) : ∀ r, 1 ≤ r → (rd (F := F) X I W).duties g r = ∅ :=
  fun r hr => if_neg fun h => by omega
theorem expect_eq : (rd (F := F) X I W).expect (kcell (c, k)) 0 = (dutiesOf k).card * amtOf k := by
  unfold Schedule.expect Schedule.amountOf
  rw [duties_eq, Finset.sum_congr rfl fun d _ => amount_eq X I W c k d, Finset.sum_const, smul_eq_mul]
/-- All a round brings. -/
theorem rest_eq : bigSep ((rd (F := F) X I W).duties (kcell (c, k)) 0 \ ∅) (fun d => (rd (F := F) X I W).payload (kcell (c, k)) 0 d)
    = bigSep (dutiesOf k) (payOf X I W k c) := by
  rw [Finset.sdiff_empty, duties_eq]
  exact bigSep_congr fun d _ => payload_eq X I W c k d

end Sched

/-! ## What is owed, and the levels -/

/-- What is still owed to the peers' barriers before the `n`-th signal. -/
def oBar (c : Dev nD) (n : ℕ) : CellTallies nD τ sig Unit :=
  ∑ r ∈ Finset.univ.filter (fun r : Fin 31 => n ≤ r.val), tallyAt (barCell (peer c (slot r))) () 1
/-- What is still owed to the peers' landing semaphores before the `n`-th copy. -/
def oLand (t : Fin 3) (c : Dev nD) (n : ℕ) : CellTallies nD τ sig Unit :=
  ∑ r ∈ Finset.univ.filter (fun r : Fin 31 => n ≤ r.val), tallyAt (landCell t (peer c (slot r))) () (amt t)

/-- What a device owes from the start. -/
def O₀ (c : Dev nD) : CellTallies nD τ sig Unit := ((oLand 2 c 0 + oLand 1 c 0) + oLand 0 c 0) + oBar c 0

theorem from_succ (n : Fin 31) : Finset.univ.filter (fun r : Fin 31 => n.val ≤ r.val)
    = insert n (Finset.univ.filter (fun r : Fin 31 => n.val + 1 ≤ r.val)) := by
  ext r; simp only [Finset.mem_filter, Finset.mem_univ, true_and, Finset.mem_insert, Fin.ext_iff]; omega
theorem not_from_succ (n : Fin 31) : n ∉ Finset.univ.filter (fun r : Fin 31 => n.val + 1 ≤ r.val) := by simp
theorem from_31 : Finset.univ.filter (fun r : Fin 31 => 31 ≤ r.val) = ∅ := by decide
theorem from_0 : Finset.univ.filter (fun r : Fin 31 => 0 ≤ r.val) = Finset.univ := by decide

theorem oBar_succ (c : Dev nD) (n : Fin 31) : oBar c n.val = oBar c (n.val + 1) + tallyAt (barCell (peer c (slot n))) () 1 := by
  unfold oBar; rw [from_succ, Finset.sum_insert (not_from_succ n), add_comm]
theorem oLand_succ (t : Fin 3) (c : Dev nD) (n : Fin 31) :
    oLand t c n.val = oLand t c (n.val + 1) + tallyAt (landCell t (peer c (slot n))) () (amt t) := by
  unfold oLand; rw [from_succ, Finset.sum_insert (not_from_succ n), add_comm]
theorem oBar_31 (c : Dev nD) : oBar c 31 = 0 := by unfold oBar; rw [from_31, Finset.sum_empty]
theorem oLand_31 (t : Fin 3) (c : Dev nD) : oLand t c 31 = 0 := by unfold oLand; rw [from_31, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvOf (k : Option Kd) : ℕ := match k with
  | none => 1
  | some (t, none) => 2 + t.val
  | some (_, some _) => 0
def lv (g : GSem nD τ sig) (_ : Unit) : ℕ := (kindOf g.2).elim 0 lvOf
theorem lv_eq (c : Dev nD) (k : Option Kd) : lv (kcell (c, k)) () = lvOf k := by
  show (kindOf (csem k)).elim 0 lvOf = _
  rw [kindOf_csem]; rfl

theorem oBar_pos {c : Dev nD} {n : ℕ} {g : GSem nD τ sig} {u : Unit} (h : 0 < oBar c n g u) : ∃ c', g = kcell (c', none) := by
  unfold oBar at h
  rw [Finset.sum_apply, Finsupp.finset_sum_apply] at h
  obtain ⟨r, -, hr⟩ := Finset.exists_ne_zero_of_sum_ne_zero (Nat.pos_iff_ne_zero.mp h)
  rw [tallyAt_apply] at hr
  by_contra hn
  exact hr (if_neg fun h' => hn ⟨_, h'.1⟩)
theorem oLand_pos {t : Fin 3} {c : Dev nD} {n : ℕ} {g : GSem nD τ sig} {u : Unit} (h : 0 < oLand t c n g u) :
    ∃ c', g = kcell (c', some (t, none)) := by
  unfold oLand at h
  rw [Finset.sum_apply, Finsupp.finset_sum_apply] at h
  obtain ⟨r, -, hr⟩ := Finset.exists_ne_zero_of_sum_ne_zero (Nat.pos_iff_ne_zero.mp h)
  rw [tallyAt_apply] at hr
  by_contra hn
  exact hr (if_neg fun h' => hn ⟨_, h'.1⟩)

/-- A device may wait at a level below everything it owes. -/
theorem mayWait_below (c : Dev nD) (s : SemLoc sig) (O : CellTallies nD τ sig Unit) (n : ℕ)
    (hs : lv ((c : Thread nD τ), s) () ≤ n)
    (hO : ∀ g u, 0 < O g u → ∃ c' k, g = kcell (c', k) ∧ n < lvOf k) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hs)
    (fun g u hg => by obtain ⟨c', k, rfl, hk⟩ := hO g u hg; cases u; rw [lv_eq]; exact hk)

/-- At its barrier a device owes only landings. -/
theorem mayWait_bar (c : Dev nD) : (levAts L lv : sProp 𝕄)
    ⊢ MayWait (c : Thread nD τ) (.reg barS) () ((oLand 2 c 0 + oLand 1 c 0) + oLand 0 c 0) :=
  mayWait_below c _ _ 1 (le_of_eq (lv_eq c none)) fun g u h => by
    simp only [Pi.add_apply, Finsupp.add_apply, Nat.add_pos_iff_pos_or_pos] at h
    rcases h with (h | h) | h <;> obtain ⟨c', rfl⟩ := oLand_pos h <;> exact ⟨c', _, rfl, by decide⟩

/-- While it waits for histograms and token rows it owes only computed rows. -/
theorem mayWait_land (c : Dev nD) (t : Fin 3) (ht : t.val < 2) : (levAts L lv : sProp 𝕄)
    ⊢ MayWait (c : Thread nD τ) (.dma (landS t)) () (oLand 2 c 0) :=
  mayWait_below c _ _ (2 + t.val) (le_of_eq (lv_eq c (some (t, none)))) fun g u h => by
    obtain ⟨c', rfl⟩ := oLand_pos h
    exact ⟨c', _, rfl, show 2 + t.val < 2 + 2 by omega⟩

/-- The staging buffers' semaphores come before everything. -/
theorem mayWait_stage (c : Dev nD) (q : DmaSem sig) (hq : ∀ k, csem k ≠ .dma q) (O : CellTallies nD τ sig Unit)
    (hO : O = O₀ c ∨ O = 0) : (levAts L lv : sProp 𝕄) ⊢ MayWait (c : Thread nD τ) (.dma q) () O := by
  rcases hO with rfl | rfl
  · refine mayWait_below c _ _ 0 (le_of_eq (by show (kindOf (.dma q)).elim 0 lvOf = 0; rw [kindOf_none hq]; rfl)) fun g u h => ?_
    unfold O₀ at h
    simp only [Pi.add_apply, Finsupp.add_apply, Nat.add_pos_iff_pos_or_pos] at h
    rcases h with ((h | h) | h) | h
    · obtain ⟨c', rfl⟩ := oLand_pos h; exact ⟨c', _, rfl, by decide⟩
    · obtain ⟨c', rfl⟩ := oLand_pos h; exact ⟨c', _, rfl, by decide⟩
    · obtain ⟨c', rfl⟩ := oLand_pos h; exact ⟨c', _, rfl, by decide⟩
    · obtain ⟨c', rfl⟩ := oBar_pos h; exact ⟨c', _, rfl, by decide⟩
  · rw [MayWait_zero]; iintro -; iempintro

end Cert.Moe
-- ==== Proof.Steps.lean ====
/-
# The kinds of lines of the program

For each kind of line that the program repeats 31 times a lemma says what the line needs and what it leaves, and
`wp_all` carries a lemma about one line over all 31 of them: the line for peer `r` turns what is kept for peer `r`
before, `A r`, into what is kept for it after, `B r`.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`, and what holds when it ends. -/
abbrev run (c : Dev nD) (k : P F PUnit) (Q : PUnit → sProp 𝕄) : sProp 𝕄 :=
  wp frame (wpE (defs₀ (F := F)) 𝒱₀ (c : Thread nD τ) none) Set.univ k Q

/-! ## One line for each peer -/

section Sums
variable {M : Type} [URA M] (A : Fin 31 → sProp M)

/-- What is kept for the peers from `n` on; and for those before `n`. -/
def rest (n : ℕ) : sProp M := bigSep (Finset.univ.filter fun r : Fin 31 => n ≤ r.val) A
def done (n : ℕ) : sProp M := bigSep (Finset.univ.filter fun r : Fin 31 => r.val < n) A

theorem rest_zero : rest A 0 = bigSep Finset.univ A := by unfold rest; rw [from_0]
theorem rest_last : rest A 31 = iprop(emp) := by unfold rest; rw [from_31, bigSep_empty]; rfl
theorem done_zero : done A 0 = iprop(emp) := by
  unfold done; rw [show Finset.univ.filter (fun r : Fin 31 => r.val < 0) = ∅ by decide, bigSep_empty]; rfl
theorem done_last : done A 31 = bigSep Finset.univ A := by
  unfold done; rw [show Finset.univ.filter (fun r : Fin 31 => r.val < 31) = Finset.univ by decide]
theorem rest_succ (n : Fin 31) : rest A n.val = iprop(A n ∗ rest A (n.val + 1)) := by
  unfold rest; rw [from_succ]; exact bigSep_insert (not_from_succ n)
theorem done_succ (n : Fin 31) : done A (n.val + 1) = iprop(A n ∗ done A n.val) := by
  have h : Finset.univ.filter (fun r : Fin 31 => r.val < n.val + 1) = insert n (Finset.univ.filter fun r : Fin 31 => r.val < n.val) := by
    ext r; simp only [Finset.mem_filter, Finset.mem_univ, true_and, Finset.mem_insert, Fin.ext_iff]; omega
  unfold done; rw [h]; exact bigSep_insert (by simp)

end Sums

/-- An invariant that each line moves on by one is moved on by 31. -/
theorem wp_each (c : Dev nD) (f : Fin 31 → P F PUnit) (Inv : ℕ → sProp 𝕄) (Q : PUnit → sProp 𝕄)
    (h : ∀ (r : Fin 31) (k' : P F PUnit),
      iprop(Inv r.val ∗ (Inv (r.val + 1) -∗ run c k' Q)) ⊢ run c ((f r).bind fun _ => k') Q)
    (k : P F PUnit) : ∀ (n : ℕ) (hn : n ≤ 31),
      iprop(Inv (31 - n) ∗ (Inv 31 -∗ run c k Q)) ⊢ run c (each f n hn k) Q
  | 0, _ => by
    iintro ⟨H, Hk⟩
    iapply Hk $$ H
  | n + 1, hn => by
    have h1 := h ⟨30 - n, by omega⟩ (each f n (by omega) k)
    rw [show (⟨30 - n, by omega⟩ : Fin 31).val = 31 - (n + 1) by dsimp only; omega,
      show 31 - (n + 1) + 1 = 31 - n by omega] at h1
    unfold each
    iintro ⟨H, Hk⟩
    iapply h1
    isplitl [H]; · iexact H
    iintro H
    iapply (wp_each c f Inv Q h k n _)
    isplitl [H] <;> iassumption

/-- What device `c` owes, whatever it has waited for. -/
def Ow (c : Dev nD) (O : CellTallies nD τ sig Unit) : sProp 𝕄 := iprop(∃ W, owes (c : Thread nD τ) O W)

/-- Lines that each turn `A r` into `B r`, what is owed going from `O r` to `O (r + 1)`. -/
theorem wp_all (c : Dev nD) (f : Fin 31 → P F PUnit) (R : sProp 𝕄) [BI.Persistent R] (O : ℕ → CellTallies nD τ sig Unit)
    (A B : Fin 31 → sProp 𝕄) (Q : PUnit → sProp 𝕄)
    (h : ∀ (r : Fin 31) (k' : P F PUnit),
      iprop(R ∗ Ow c (O r.val) ∗ A r ∗ ((Ow c (O (r.val + 1)) ∗ B r) -∗ run c k' Q)) ⊢ run c ((f r).bind fun _ => k') Q)
    (k : P F PUnit) :
    iprop(R ∗ Ow c (O 0) ∗ bigSep Finset.univ A ∗ ((Ow c (O 31) ∗ bigSep Finset.univ B) -∗ run c k Q)) ⊢ run c (all f k) Q := by
  iintro ⟨#HR, HO, HA, Hk⟩
  iapply (wp_each c f (fun n => iprop(R ∗ Ow c (O n) ∗ rest A n ∗ done B n)) Q (fun r k' => by
    rw [rest_succ, done_succ]
    iintro ⟨⟨#HR, HO, ⟨HA, HAs⟩, HBs⟩, Hk⟩
    iapply (h r k')
    isplitr; · iexact HR
    isplitl [HO]; · iexact HO
    isplitl [HA]; · iexact HA
    iintro ⟨HO, HB⟩
    iapply Hk
    isplitr; · iexact HR
    isplitl [HO]; · iexact HO
    isplitl [HAs]; · iexact HAs
    isplitl [HB] <;> iassumption) k 31 (le_refl 31))
  isplitl [HO HA]
  · isplitr; · iexact HR
    isplitl [HO]; · iexact HO
    rw [show (31 - 31 : ℕ) = 0 from rfl, rest_zero, done_zero]
    isplitl [HA]; · iexact HA
    iempintro
  · rw [done_last]
    iintro ⟨-, HO, -, HB⟩
    iapply Hk
    isplitl [HO] <;> iassumption

/-! ## What all devices know -/

section Lines

variable (X : Dev nD → Vec F S1024x256 .bf16) (I : Dev nD → Vec F S1024x1 .i32) (W : Dev nD → Vec F S4x256x512 .bf16)
variable (K : Dev nD × Option Kd → ℕ)

def records : sProp 𝕄 :=
  iprop((bigSep Finset.univ fun ck : Dev nD × Option Kd => cellInv ER (rd X I W) (K ck) (kcell ck))
    ∗ bigSep Finset.univ fun ck : Dev nD × Option Kd => reached ER (kcell ck) 0)

instance records_persistent : BI.Persistent (records X I W K) := by unfold records; infer_instance

theorem inv_at (ck : Dev nD × Option Kd) : records X I W K ⊢ cellInv ER (rd X I W) (K ck) (kcell ck) :=
  (show records X I W K ⊢ (bigSep Finset.univ fun ck : Dev nD × Option Kd => cellInv ER (rd X I W) (K ck) (kcell ck)) by
    unfold records; iintro ⟨H, -⟩; iexact H).trans (bigSep_elim (Finset.mem_univ ck))
theorem reached_at (ck : Dev nD × Option Kd) : records X I W K ⊢ reached ER (kcell ck) 0 :=
  (show records X I W K ⊢ (bigSep Finset.univ fun ck : Dev nD × Option Kd => (reached ER (kcell ck) 0 : sProp 𝕄)) by
    unfold records; iintro ⟨-, H⟩; iexact H).trans (bigSep_elim (Finset.mem_univ ck))

abbrev tok (c : Dev nD) (k : Option Kd) (d : Fin 31) : sProp 𝕄 := dutyTok ER (kcell (c, k)) 0 d

/-! ## The lines -/

/-- Telling a peer that this device has arrived, and giving it the slots it will write to. -/
theorem line_sig (c : Dev nD) (O : CellTallies nD τ sig Unit) (Q : PUnit → sProp 𝕄) (r : Fin 31) (k' : P F PUnit) :
    iprop(records X I W K ∗ Ow c (O + oBar c r.val) ∗ (tok (peer c (slot r)) none (back r) ∗ gift c r)
        ∗ ((Ow c (O + oBar c (r.val + 1)) ∗ emp) -∗ run c k' Q))
      ⊢ run c ((sig1 c r).bind fun _ => k') Q := by
  unfold sig1 run
  rw [peerW_eq c r]
  simp only [semSignalWord, Prog.lift, Prog.bind_op, Prog.bind_ret]
  unfold Ow
  iintro ⟨#HR, ⟨%Ws, HO⟩, ⟨Ht, Hg⟩, Hk⟩
  iapply (Rounds.wp_signal 𝒱₀ ER (rd X I W) (c : Thread nD τ) none (dst := (peer c (slot r) : Thread nD τ)) (κ := K (peer c (slot r), none))
      (r := 0) (d := back r)
      (by rw [show ((peer c (slot r) : Thread nD τ), SemLoc.reg barS) = kcell (peer c (slot r), none) from rfl, duties_eq]; exact Finset.mem_univ _)
      (amount_eq X I W (peer c (slot r)) none (back r)) () (O₀ := O + oBar c r.val)
      (O + oBar c (r.val + 1)) (by rw [oBar_succ, add_assoc]; rfl)) $$ [HO Ht Hg]
  · isplitr; · iapply (inv_at X I W K (peer c (slot r), none)); iexact HR
    isplitl [HO]; · iexact HO
    isplitl [Ht]; · iexact Ht
    isplitl [Hg]
    · iapply (Entails.of_eq (payload_eq X I W (peer c (slot r)) none (back r)).symm)
      unfold payOf; rw [peer_back, back_back]; iexact Hg
    · iapply (reached_at X I W K (peer c (slot r), none)); iexact HR
  iintro HO
  iapply Hk
  isplitl [HO]
  · iexists Ws; iexact HO
  · iempintro

/-- A copy to a peer: the source is lent until the copy has left, the destination handed over. -/
theorem line_copy (c : Dev nD) (t : Fin 3) (r : Fin 31) {s : Shape} {e : EltTy} (src dst : Memref sig .tc .vmem s e)
    (n : Dev nD) (hn : n = peer c (slot r))
    {hsc : (dst : Memref sig (Dev.tc n : Thread nD τ).2.kind .vmem s e).view.ref.isScScratch = false}
    {hsrc : src.view.WordExact} {hdst : dst.view.WordExact}
    {hsem : DmaTarget.Typed .vmem (.dma (landS t)) (.remote (Dev.tc n : Thread nD τ) dst (.dma (leaveS t r)) hsc)}
    (hN : dst.view.amount (.dma (landS t)) = amt t) (q : PosShare TreeShare)
    (fs : Buf (Elt F) (src.view.loc (c : Thread nD τ))) (D : Buf (Elt F) (dst.view.loc (peer c (slot r) : Thread nD τ)) → sProp 𝕄)
    (hD : ∀ fd, D fd ⊢ (dst.view.loc (peer c (slot r) : Thread nD τ) ↦[dst.view.set]{fullShare} fd))
    (hp₁ : (src.view.loc (c : Thread nD τ) ↦[src.view.set]{q} fs) ⊢ leavePay X I W t c r)
    (hp₂ : ∀ fd, (dst.view.loc (peer c (slot r) : Thread nD τ) ↦[dst.view.set]{fullShare}
        (dst.view.write (Elt F) fd (src.view.read (Elt F) fs) Finset.univ)) ⊢ landPay X I W t (peer c (slot r)) (back r))
    (O : CellTallies nD τ sig Unit) (Q : PUnit → sProp 𝕄) (k' : P F PUnit) :
    iprop(records X I W K ∗ Ow c (O + oLand t c r.val)
        ∗ ((src.view.loc (c : Thread nD τ) ↦[src.view.set]{q} fs) ∗ (∃ fd, D fd) ∗ tok c (some (t, some r)) 0
            ∗ tok (peer c (slot r)) (some (t, none)) (back r))
        ∗ ((Ow c (O + oLand t c (r.val + 1)) ∗ cred (tallyAt (leaveCell t r c) () (amt t))) -∗ run c k' Q))
      ⊢ run c (.op (.enqueueDma src (.remote (Dev.tc n : Thread nD τ) dst (.dma (leaveS t r)) hsc) (.dma (landS t)) hsrc hdst hsem)
          fun _ => k') Q := by
  subst hn
  unfold Ow
  iintro ⟨#HR, ⟨%Ws, HO⟩, ⟨Hs, ⟨%fd, Hd⟩, Ht1, Ht2⟩, Hk⟩
  iapply (Rounds.wp_send_pointsTo 𝒱₀ ER (rd X I W) (c : Thread nD τ) none (κ₁ := K (c, some (t, some r)))
      (κ₂ := K (peer c (slot r), some (t, none))) (r₁ := 0) (r₂ := 0) (d₁ := 0) (d₂ := back r) (fs := fs) (fd := fd) (q := q)
      (by rw [show ((c : Thread nD τ), SemLoc.dma (leaveS t r)) = kcell (c, some (t, some r)) from rfl, duties_eq]
          exact Finset.mem_singleton_self _)
      (by rw [show ((peer c (slot r) : Thread nD τ), SemLoc.dma (landS t)) = kcell (peer c (slot r), some (t, none)) from rfl, duties_eq]
          exact Finset.mem_univ _)
      () () (amt t) hN (amount_eq X I W c (some (t, some r)) 0) (amount_eq X I W (peer c (slot r)) (some (t, none)) (back r))
      (O₀ := O + oLand t c r.val) (O + oLand t c (r.val + 1)) (by rw [oLand_succ, add_assoc]) (W := Ws)
      (hp₁.trans (Entails.of_eq (payload_eq X I W c (some (t, some r)) 0).symm))
      ((hp₂ fd).trans (Entails.of_eq (payload_eq X I W (peer c (slot r)) (some (t, none)) (back r)).symm)))
    $$ [Hs Hd HO Ht1 Ht2]
  · isplitr; · iapply (inv_at X I W K (c, some (t, some r))); iexact HR
    isplitr; · iapply (inv_at X I W K (peer c (slot r), some (t, none))); iexact HR
    isplitl [Hs]; · iexact Hs
    isplitl [Hd]; · iapply (hD fd); iexact Hd
    isplitl [HO]; · iexact HO
    isplitl [Ht1]; · iexact Ht1
    isplitr; · iapply (reached_at X I W K (c, some (t, some r))); iexact HR
    isplitl [Ht2]; · iexact Ht2
    iapply (reached_at X I W K (peer c (slot r), some (t, none))); iexact HR
  iintro ⟨Hc, HO⟩
  iapply Hk
  isplitl [HO]
  · iexists Ws; iexact HO
  · iexact Hc

/-- Waiting for the whole round of one of the semaphores. -/
theorem line_round (c : Dev nD) (k : Option Kd) {w : TpuEff nD τ sig (Elt F) Λ₀ .tc PUnit} {n : ℕ}
    (hw : ∀ K : PUnit → sProp 𝕄, wpE (defs₀ (F := F)) 𝒱₀ (c : Thread nD τ) none Set.univ w K
      = waitSpec (c : Thread nD τ) Set.univ (csem k) n K)
    (m : ℕ) (T : Finset (Fin 31)) (hn : m + n = (dutiesOf k).card * amtOf k)
    (O : CellTallies nD τ sig Unit) (hO : (levAts L lv : sProp 𝕄) ⊢ MayWait (c : Thread nD τ) (csem k) () O)
    (Q : PUnit → sProp 𝕄) (k' : PUnit → P F PUnit) :
    iprop(records X I W K ∗ levAts L lv ∗ Ow c O ∗ cred (tallyAt (kcell (c, k)) () n) ∗ atPos ER (kcell (c, k)) 0 T m
        ∗ ((Ow c O ∗ atPos ER (kcell (c, k)) 1 ∅ 0 ∗ bigSep (dutiesOf k \ T) (payOf X I W k c)) -∗ run c (k' ⟨⟩) Q))
      ⊢ run c (.op w k') Q := by
  unfold Ow
  iintro ⟨#HR, #Hl, ⟨%Ws, HO⟩, Hc, Hat, Hk⟩
  iapply (Rounds.wp_wait_rest_token 𝒱₀ ER (rd X I W) (c : Thread nD τ) none (κ := K (c, k))
      hw (Set.mem_univ _) () (O := O) (W := Ws) (R := 0) (m := m) (T := T)
      (hn.trans (expect_eq X I W c k).symm)) $$ [Hc HO Hat]
  · isplitr; · iapply (inv_at X I W K (c, k)); iexact HR
    isplitl [Hc]; · iexact Hc
    isplitl [HO]; · iexact HO
    isplitr; · iapply hO; iexact Hl
    iexact Hat
  iintro ⟨HO, Hat, -, Hp⟩
  iapply Hk
  isplitl [HO]; · iexists _; iexact HO
  isplitl [Hat]; · iexact Hat
  iapply (Entails.of_eq (show bigSep ((rd (F := F) X I W).duties (kcell (c, k)) 0 \ T) (fun d => (rd (F := F) X I W).payload (kcell (c, k)) 0 d)
    = bigSep (dutiesOf k \ T) (payOf X I W k c) by rw [duties_eq]; exact bigSep_congr fun d _ => payload_eq X I W c k d))
  iexact Hp

/-- Waiting for one of the 31 copies that land on a semaphore, when more are to come: some have landed. -/
theorem line_part (c : Dev nD) (t : Fin 3) {w : TpuEff nD τ sig (Elt F) Λ₀ .tc PUnit} {n : ℕ}
    (hw : ∀ K : PUnit → sProp 𝕄, wpE (defs₀ (F := F)) 𝒱₀ (c : Thread nD τ) none Set.univ w K
      = waitSpec (c : Thread nD τ) Set.univ (.dma (landS t)) n K)
    (m : ℕ) (O : CellTallies nD τ sig Unit)
    (hO : (levAts L lv : sProp 𝕄) ⊢ MayWait (c : Thread nD τ) (.dma (landS t)) () O)
    (Q : PUnit → sProp 𝕄) (k' : PUnit → P F PUnit) :
    iprop(records X I W K ∗ levAts L lv ∗ Ow c O ∗ cred (tallyAt (landCell t c) () n)
        ∗ (∃ T, atPos ER (landCell t c) 0 T m ∗ bigSep T (landPay X I W t c))
        ∗ ((Ow c O ∗ ∃ T, atPos ER (landCell t c) 0 T (m + n) ∗ bigSep T (landPay X I W t c)) -∗ run c (k' ⟨⟩) Q))
      ⊢ run c (.op w k') Q := by
  unfold Ow
  iintro ⟨#HR, #Hl, ⟨%Ws, HO⟩, Hc, ⟨%T, Hat, HT⟩, Hk⟩
  iapply (Rounds.wp_wait 𝒱₀ ER (rd X I W) (c : Thread nD τ) none (κ := K (c, some (t, none)))
      hw (Set.mem_univ _) {(SemLoc.dma (landS t), ())} (cr := Finsupp.single () n) (O := O) (W := Ws) (R := 0) (m := m) (T := T)
      (Util.total_single _ _) (image_single_subset _ _ _)) $$ [Hc HO Hat]
  · isplitr; · iapply (inv_at X I W K (c, some (t, none))); iexact HR
    isplitl [Hc]; · iexact Hc
    isplitl [HO]; · iexact HO
    isplitr; · iapply hO; iexact Hl
    iexact Hat
  iintro %S ⟨%hS, HO, Hat, Hp⟩
  iapply Hk
  isplitl [HO]; · iexists _; iexact HO
  iexists S
  isplitl [Hat]; · iexact Hat
  iapply (Entails.of_eq (show bigSep S (landPay X I W t c) = iprop(bigSep T (landPay X I W t c) ∗ bigSep (S \ T) (landPay X I W t c))
    from bigSep_sdiff_split hS.1).symm)
  isplitl [HT]; · iexact HT
  iapply (Entails.of_eq (bigSep_congr fun d _ => payload_eq X I W c (some (t, none)) d))
  iexact Hp

/-- A semaphore whose round is over is at zero for good. -/
theorem close_at (c : Dev nD) (k : Option Kd) :
    iprop(records X I W K ∗ atPos ER (kcell (c, k)) 1 ∅ 0) ⊢ iprop(|={Set.univ}=> semVal (kcell (c, k)) 0) := by
  iintro ⟨#HR, Hat⟩
  iapply (Rounds.cell_close ER (rd X I W) (g := kcell (c, k)) (κ := K (c, k)) (Set.mem_univ _) (fun h => h) (R := 1)
    (duties_later X I W (kcell (c, k))))
  isplitr; · iapply (inv_at X I W K (c, k)); iexact HR
  iexact Hat

/-- Waiting until a copy has left: its source is back. -/
theorem line_done (c : Dev nD) (t : Fin 3) (r : Fin 31) {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma (leaveS t r)) (amt t) K)
    (Q : PUnit → sProp 𝕄) (k' : P F PUnit) :
    iprop((records X I W K ∗ levAts L lv) ∗ Ow c 0
        ∗ (cred (tallyAt (leaveCell t r c) () (amt t)) ∗ atPos ER (kcell (c, some (t, some r))) 0 ∅ 0)
        ∗ ((Ow c 0 ∗ (leavePay X I W t c r ∗ semVal (kcell (c, some (t, some r))) 0)) -∗ run c k' Q))
      ⊢ run c (.op w fun _ => k') Q := by
  iintro ⟨⟨#HR, #Hl⟩, HO, ⟨Hc, Hat⟩, Hk⟩
  iapply (line_round X I W K c (some (t, some r)) hw 0 ∅ (by show 0 + amt t = 1 * amt t; omega) 0
    (by rw [MayWait_zero]; iintro -; iempintro) Q fun _ => k')
  isplitr; · iexact HR
  isplitr; · iexact Hl
  isplitl [HO]; · iexact HO
  isplitl [Hc]; · iexact Hc
  isplitl [Hat]; · iexact Hat
  iintro ⟨HO, Hat, Hp⟩
  imod (close_at X I W K c (some (t, some r))) $$ [Hat] with Hz
  · isplitr; · iexact HR
    iexact Hat
  iapply Hk
  isplitl [HO]; · iexact HO
  isplitl [Hp]
  · iapply (Entails.of_eq (show bigSep (dutiesOf (some (t, some r)) \ ∅) (payOf X I W (some (t, some r)) c)
      = leavePay X I W t c r by
        rw [Finset.sdiff_empty]; exact bigSep_singleton))
    iexact Hp
  · iexact Hz

end Lines

end Cert.Moe
-- ==== Proof.Phases.lean ====
/-
# The repeated stretches of the program

Each of the stretches of 31 equal lines as a whole: the signals, the three rounds of copies, the waits for histograms
and the waits for copies that have left.
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots as the copies name them -/

theorem hPts_view (c : Dev nD) (j : Fin 32) (q : PosShare TreeShare) (f : Vec F S32x128 .i32) :
    hPts c j q f = ((hRow j).view.loc (c : Thread nD τ) ↦[(hRow j).view.set]{q} f : sProp 𝕄) := by
  unfold hPts; rw [set_hRow]
theorem sPts_view (c : Dev nD) (j : Fin 32) (f : Vec F S32x4x40x256 .bf16) :
    sPts c j f = ((dSlot sM j).view.loc (c : Thread nD τ) ↦[(dSlot sM j).view.set]{fullShare} f : sProp 𝕄) := by
  unfold sPts; rw [set_sSlot]
theorem rPts_view (c : Dev nD) (j : Fin 32) (f : Vec F S32x4x40x256 .bf16) :
    rPts c j f = ((dSlot rM j).view.loc (c : Thread nD τ) ↦[(dSlot rM j).view.set]{fullShare} f : sProp 𝕄) := by
  unfold rPts; rw [set_rSlot]
theorem yPts_view (c : Dev nD) (j : Fin 32) (f : Vec F S32x4x40x512 .bf16) :
    yPts c j f = ((ySlot yM j).view.loc (c : Thread nD τ) ↦[(ySlot yM j).view.set]{fullShare} f : sProp 𝕄) := by
  unfold yPts; rw [set_ySlot]
theorem zPts_view (c : Dev nD) (j : Fin 32) (f : Vec F S32x4x40x512 .bf16) :
    zPts c j f = ((ySlot zM j).view.loc (c : Thread nD τ) ↦[(ySlot zM j).view.set]{fullShare} f : sProp 𝕄) := by
  unfold zPts; rw [set_zSlot]

section Phases

variable (X : Dev nD → Vec F S1024x256 .bf16) (I : Dev nD → Vec F S1024x1 .i32) (W : Dev nD → Vec F S4x256x512 .bf16)
variable (K : Dev nD × Option Kd → ℕ)

/-- The 31 signals. -/
theorem phase_sig (c : Dev nD) (O : CellTallies nD τ sig Unit) (Q : PUnit → sProp 𝕄) (k : P F PUnit) :
    iprop(records X I W K ∗ Ow c (O + oBar c 0) ∗ (bigSep Finset.univ fun r => tok (peer c (slot r)) none (back r))
        ∗ bigSep Finset.univ (gift c) ∗ (Ow c O -∗ run c k Q))
      ⊢ run c (all (sig1 c) k) Q := by
  iintro ⟨#HR, HO, Ht, Hg, Hk⟩
  iapply (wp_all c (sig1 c) (records X I W K) (fun n => O + oBar c n) (fun r => iprop(tok (peer c (slot r)) none (back r) ∗ gift c r))
    (fun _ => iprop(emp)) Q (line_sig X I W K c O Q) k)
  isplitr; · iexact HR
  isplitl [HO]; · iexact HO
  isplitl [Ht Hg]
  · rw [bigSep_sep']; isplitl [Ht] <;> iassumption
  · rw [oBar_31, add_zero]
    iintro ⟨HO, -⟩
    iapply Hk $$ HO

/-- What the copies of one kind take, apart from sources and destinations. -/
abbrev copyToks (t : Fin 3) (c : Dev nD) : sProp 𝕄 :=
  iprop((bigSep Finset.univ fun r => tok c (some (t, some r)) 0)
    ∗ bigSep Finset.univ fun r => tok (peer c (slot r)) (some (t, none)) (back r))

/-- What they leave. -/
abbrev copyCreds (t : Fin 3) (c : Dev nD) : sProp 𝕄 :=
  bigSep Finset.univ fun r => cred (tallyAt (leaveCell t r c) () (amt t))

/-- One round of copies, given that each of its lines does its part. -/
theorem phase_copy (c : Dev nD) (t : Fin 3) (f : Fin 31 → P F PUnit) (S D : Fin 31 → sProp 𝕄)
    (O : CellTallies nD τ sig Unit) (Q : PUnit → sProp 𝕄)
    (h : ∀ (r : Fin 31) (k' : P F PUnit),
      iprop(records X I W K ∗ Ow c (O + oLand t c r.val)
        ∗ (S r ∗ D r ∗ tok c (some (t, some r)) 0 ∗ tok (peer c (slot r)) (some (t, none)) (back r))
        ∗ ((Ow c (O + oLand t c (r.val + 1)) ∗ cred (tallyAt (leaveCell t r c) () (amt t))) -∗ run c k' Q))
      ⊢ run c ((f r).bind fun _ => k') Q)
    (k : P F PUnit) :
    iprop(records X I W K ∗ Ow c (O + oLand t c 0) ∗ bigSep Finset.univ S ∗ bigSep Finset.univ D ∗ copyToks t c
        ∗ ((Ow c O ∗ copyCreds t c) -∗ run c k Q))
      ⊢ run c (all f k) Q := by
  iintro ⟨#HR, HO, HS, HD, ⟨Ht1, Ht2⟩, Hk⟩
  iapply (wp_all c f (records X I W K) (fun n => O + oLand t c n) _ (fun r => cred (tallyAt (leaveCell t r c) () (amt t))) Q h k)
  isplitr; · iexact HR
  isplitl [HO]; · iexact HO
  isplitl [HS HD Ht1 Ht2]
  · rw [bigSep_sep', bigSep_sep', bigSep_sep']
    isplitl [HS]; · iexact HS
    isplitl [HD]; · iexact HD
    isplitl [Ht1] <;> iassumption
  · rw [oLand_31, add_zero]
    iexact Hk

/-- The copies of histograms. -/
theorem phase_copyH (c : Dev nD) (O : CellTallies nD τ sig Unit) (Q : PUnit → sProp 𝕄) (k : P F PUnit) :
    iprop(records X I W K ∗ Ow c (O + oLand 0 c 0)
        ∗ (bigSep Finset.univ fun r => hPts c own (part (slot r)) (histB I c))
        ∗ (bigSep Finset.univ fun r => iprop(∃ f, hPts (peer c (slot r)) (slot (back r)) fullShare f)) ∗ copyToks 0 c
        ∗ ((Ow c O ∗ copyCreds 0 c) -∗ run c k Q))
      ⊢ run c (all (copyH c) k) Q := by
  refine phase_copy X I W K c 0 (copyH c) _ _ O Q (fun r k' => ?_) k
  unfold copyH
  simp only [Prog.lift, Prog.bind_op, Prog.bind_ret]
  rw [hPts_view]
  exact line_copy X I W K c 0 r (hRow own) (hRow (slot (back r))) (peerW c r) (peerW_eq c r) rfl (part (slot r)) (histB I c)
    (fun f => hPts (peer c (slot r)) (slot (back r)) fullShare f) (fun fd => Entails.of_eq (hPts_view _ _ _ _))
    (Entails.of_eq (hPts_view _ _ _ _).symm)
    (fun fd => Entails.of_eq (by
      unfold landPay; rw [hPts_view]
      exact pointsTo_congr fun i hi => land_histB I c r fd i (set_hRow (slot (back r)) ▸ hi))) O Q k'

/-- The copies of token rows. -/
theorem phase_copyD (c : Dev nD) (O : CellTallies nD τ sig Unit) (Q : PUnit → sProp 𝕄) (k : P F PUnit) :
    iprop(records X I W K ∗ Ow c (O + oLand 1 c 0)
        ∗ (bigSep Finset.univ fun r => sPts c (slot r) (sB X I c))
        ∗ (bigSep Finset.univ fun r => iprop(∃ f, rPts (peer c (slot r)) (slot (back r)) f)) ∗ copyToks 1 c
        ∗ ((Ow c O ∗ copyCreds 1 c) -∗ run c k Q))
      ⊢ run c (all (copyD c) k) Q := by
  refine phase_copy X I W K c 1 (copyD c) _ _ O Q (fun r k' => ?_) k
  unfold copyD
  simp only [Prog.lift, Prog.bind_op, Prog.bind_ret]
  rw [sPts_view]
  exact line_copy X I W K c 1 r (dSlot sM (slot r)) (dSlot rM (slot (back r))) (peerW c r) (peerW_eq c r) rfl fullShare (sB X I c)
    (fun f => rPts (peer c (slot r)) (slot (back r)) f) (fun fd => Entails.of_eq (rPts_view _ _ _))
    (Entails.of_eq (sPts_view _ _ _).symm)
    (fun fd => Entails.of_eq (by
      unfold landPay; rw [rPts_view]
      exact pointsTo_congr fun i hi => land_rB X I c r fd i (set_rSlot (slot (back r)) ▸ hi))) O Q k'

/-- The copies of computed rows. -/
theorem phase_copyY (c : Dev nD) (O : CellTallies nD τ sig Unit) (Q : PUnit → sProp 𝕄) (k : P F PUnit) :
    iprop(records X I W K ∗ Ow c (O + oLand 2 c 0)
        ∗ (bigSep Finset.univ fun r => yPts c (slot r) (yB X I W c))
        ∗ (bigSep Finset.univ fun r => iprop(∃ f, zPts (peer c (slot r)) (slot (back r)) f)) ∗ copyToks 2 c
        ∗ ((Ow c O ∗ copyCreds 2 c) -∗ run c k Q))
      ⊢ run c (all (copyY c) k) Q := by
  refine phase_copy X I W K c 2 (copyY c) _ _ O Q (fun r k' => ?_) k
  unfold copyY
  simp only [Prog.lift, Prog.bind_op, Prog.bind_ret]
  rw [yPts_view]
  exact line_copy X I W K c 2 r (ySlot yM (slot r)) (ySlot zM (slot (back r))) (peerW c r) (peerW_eq c r) rfl fullShare (yB X I W c)
    (fun f => zPts (peer c (slot r)) (slot (back r)) f) (fun fd => Entails.of_eq (zPts_view _ _ _))
    (Entails.of_eq (yPts_view _ _ _).symm)
    (fun fd => Entails.of_eq (by
      unfold landPay; rw [zPts_view]
      exact pointsTo_congr fun i hi => land_zB X I W c r fd i (set_zSlot (slot (back r)) ▸ hi))) O Q k'

/-- The waits for histograms: all of them are there after the last. -/
theorem phase_waitH (c : Dev nD) (Q : PUnit → sProp 𝕄) (k : P F PUnit) :
    iprop(records X I W K ∗ levAts L lv ∗ Ow c (oLand 2 c 0) ∗ cred (tallyAt (landCell 0 c) () (31 * amt 0))
        ∗ atPos ER (landCell 0 c) 0 ∅ 0
        ∗ ((Ow c (oLand 2 c 0) ∗ atPos ER (landCell 0 c) 1 ∅ 0
            ∗ bigSep Finset.univ fun r => hPts c (slot r) fullShare (histB I c)) -∗ run c k Q))
      ⊢ run c (all waitH k) Q := by
  have hw : ∀ r : Fin 31, ∀ K : PUnit → sProp 𝕄,
      wpE (defs₀ (F := F)) 𝒱₀ (c : Thread nD τ) none Set.univ (.waitDma2 (recvS cc0_scratch8).sem (hRow (slot r)) (hRow (slot r)) (exactH _) (exactH _)) K
        = waitSpec (c : Thread nD τ) Set.univ (.dma (landS 0)) (amt 0) K :=
    fun r => wpE_waitDma2_eq 𝒱₀ (c : Thread nD τ) none Set.univ
  have hcr : ∀ r : Fin 31, (cred (tallyAt (landCell 0 c) () ((31 - r.val) * amt 0)) : sProp 𝕄)
      = iprop(cred (tallyAt (landCell 0 c) () (amt 0)) ∗ cred (tallyAt (landCell 0 c) () ((31 - (r.val + 1)) * amt 0))) := fun r => by
    rw [show (31 - r.val) * amt 0 = amt 0 + (31 - (r.val + 1)) * amt 0 by
      rw [show 31 - r.val = (31 - (r.val + 1)) + 1 by omega, Nat.add_mul, Nat.one_mul, Nat.add_comm], ← tallyAt_add]
    exact BI.Entails.antisymm (cred_add _ _).1 (cred_add _ _).2
  iintro ⟨#HR, #Hl, HO, Hc, Hat, Hk⟩
  iapply (wp_each c waitH (fun n => iprop(records X I W K ∗ levAts L lv ∗ Ow c (oLand 2 c 0)
      ∗ if n < 31 then iprop(cred (tallyAt (landCell 0 c) () ((31 - n) * amt 0)) ∗ ∃ T, atPos ER (landCell 0 c) 0 T (n * amt 0) ∗ bigSep T (landPay X I W 0 c))
        else iprop(atPos ER (landCell 0 c) 1 ∅ 0 ∗ bigSep Finset.univ (landPay X I W 0 c)))) Q (fun r k' => by
    unfold waitH
    simp only [Prog.lift, Prog.bind_op, Prog.bind_ret]
    rw [if_pos r.isLt, hcr]
    by_cases hr : r.val + 1 < 31
    · rw [if_pos hr]
      iintro ⟨⟨#HR, #Hl, HO, ⟨Hc, Hcs⟩, Hat⟩, Hk⟩
      iapply (line_part X I W K c 0 (hw r) (r.val * amt 0) _ (mayWait_land c 0 (by decide)) Q fun _ => k')
      isplitr; · iexact HR
      isplitr; · iexact Hl
      isplitl [HO]; · iexact HO
      isplitl [Hc]; · iexact Hc
      isplitl [Hat]; · iexact Hat
      rw [show r.val * amt 0 + amt 0 = (r.val + 1) * amt 0 by rw [Nat.add_mul, Nat.one_mul]]
      iintro ⟨HO, Hat⟩
      iapply Hk
      isplitr; · iexact HR
      isplitr; · iexact Hl
      isplitl [HO]; · iexact HO
      isplitl [Hcs] <;> iassumption
    · rw [if_neg hr]
      iintro ⟨⟨#HR, #Hl, HO, ⟨Hc, -⟩, ⟨%T, Hat, HT⟩⟩, Hk⟩
      iapply (line_round X I W K c (some (0, none)) (hw r) (r.val * amt 0) T
        (by show r.val * amt 0 + amt 0 = 31 * amt 0
            rw [show r.val = 30 by omega, ← Nat.succ_mul]) _ (mayWait_land c 0 (by decide)) Q fun _ => k')
      isplitr; · iexact HR
      isplitr; · iexact Hl
      isplitl [HO]; · iexact HO
      isplitl [Hc]; · iexact Hc
      isplitl [Hat]; · iexact Hat
      iintro ⟨HO, Hat, Hp⟩
      iapply Hk
      isplitr; · iexact HR
      isplitr; · iexact Hl
      isplitl [HO]; · iexact HO
      isplitl [Hat]; · iexact Hat
      iapply (Entails.of_eq (show bigSep Finset.univ (landPay X I W 0 c) = iprop(bigSep T (landPay X I W 0 c)
        ∗ bigSep (Finset.univ \ T) (landPay X I W 0 c)) from bigSep_sdiff_split (Finset.subset_univ T)).symm)
      isplitl [HT]; · iexact HT
      iexact Hp) k 31 (le_refl 31))
  isplitl [HO Hc Hat]
  · isplitr; · iexact HR
    isplitr; · iexact Hl
    isplitl [HO]; · iexact HO
    rw [if_pos (by decide), show 31 - (31 - 31) = 31 from rfl, show (31 - 31) * amt 0 = 0 by rw [Nat.sub_self, Nat.zero_mul]]
    isplitl [Hc]; · iexact Hc
    iexists ∅
    isplitl [Hat]; · iexact Hat
    iapply (Entails.of_eq (show bigSep ∅ (landPay X I W 0 c) = iprop(emp) from bigSep_empty).symm)
    iempintro
  · rw [if_neg (by decide)]
    iintro ⟨-, -, HO, Hat, Hp⟩
    iapply Hk
    isplitl [HO]; · iexact HO
    isplitl [Hat]; · iexact Hat
    iexact Hp

/-- The waits for copies of one kind that have left. -/
theorem phase_done (c : Dev nD) (t : Fin 3) (f : Fin 31 → P F PUnit) (w : Fin 31 → TpuEff nD τ sig (Elt F) Λ₀ .tc PUnit)
    (hf : ∀ r, f r = Prog.lift (w r))
    (hw : ∀ (r : Fin 31) (K : PUnit → sProp 𝕄), wpE (defs₀ (F := F)) 𝒱₀ (c : Thread nD τ) none Set.univ (w r) K
      = waitSpec (c : Thread nD τ) Set.univ (.dma (leaveS t r)) (amt t) K)
    (Q : PUnit → sProp 𝕄) (k : P F PUnit) :
    iprop(records X I W K ∗ levAts L lv ∗ Ow c 0 ∗ copyCreds t c
        ∗ (bigSep Finset.univ fun r => atPos ER (kcell (c, some (t, some r))) 0 ∅ 0)
        ∗ ((Ow c 0 ∗ bigSep Finset.univ (leavePay X I W t c) ∗ bigSep Finset.univ fun r => semVal (kcell (c, some (t, some r))) 0)
            -∗ run c k Q))
      ⊢ run c (all f k) Q := by
  iintro ⟨#HR, #Hl, HO, Hc, Hat, Hk⟩
  iapply (wp_all c f iprop(records X I W K ∗ levAts L lv) (fun _ => 0)
    (fun r => iprop(cred (tallyAt (leaveCell t r c) () (amt t)) ∗ atPos ER (kcell (c, some (t, some r))) 0 ∅ 0))
    (fun r => iprop(leavePay X I W t c r ∗ semVal (kcell (c, some (t, some r))) 0)) Q (fun r k' => by
      rw [hf]; simp only [Prog.lift, Prog.bind_op, Prog.bind_ret]
      exact line_done X I W K c t r (hw r) Q k') k)
  isplitr
  · isplitr; · iexact HR
    iexact Hl
  isplitl [HO]; · iexact HO
  rw [bigSep_sep', bigSep_sep']
  isplitl [Hc Hat]
  · isplitl [Hc] <;> iassumption
  iexact Hk

theorem phase_doneH (c : Dev nD) (Q : PUnit → sProp 𝕄) (k : P F PUnit) :
    iprop(records X I W K ∗ levAts L lv ∗ Ow c 0 ∗ copyCreds 0 c
        ∗ (bigSep Finset.univ fun r => atPos ER (kcell (c, some (0, some r))) 0 ∅ 0)
        ∗ ((Ow c 0 ∗ bigSep Finset.univ (leavePay X I W 0 c) ∗ bigSep Finset.univ fun r => semVal (kcell (c, some (0, some r))) 0)
            -∗ run c k Q))
      ⊢ run c (all doneH k) Q :=
  phase_done X I W K c 0 doneH _ (fun _ => rfl) (fun r => wpE_waitDma2_eq 𝒱₀ (c : Thread nD τ) none Set.univ) Q k
theorem phase_doneD (c : Dev nD) (Q : PUnit → sProp 𝕄) (k : P F PUnit) :
    iprop(records X I W K ∗ levAts L lv ∗ Ow c 0 ∗ copyCreds 1 c
        ∗ (bigSep Finset.univ fun r => atPos ER (kcell (c, some (1, some r))) 0 ∅ 0)
        ∗ ((Ow c 0 ∗ bigSep Finset.univ (leavePay X I W 1 c) ∗ bigSep Finset.univ fun r => semVal (kcell (c, some (1, some r))) 0)
            -∗ run c k Q))
      ⊢ run c (all doneD k) Q :=
  phase_done X I W K c 1 doneD _ (fun _ => rfl) (fun r => wpE_waitDma2_eq 𝒱₀ (c : Thread nD τ) none Set.univ) Q k
theorem phase_doneY (c : Dev nD) (Q : PUnit → sProp 𝕄) (k : P F PUnit) :
    iprop(records X I W K ∗ levAts L lv ∗ Ow c 0 ∗ copyCreds 2 c
        ∗ (bigSep Finset.univ fun r => atPos ER (kcell (c, some (2, some r))) 0 ∅ 0)
        ∗ ((Ow c 0 ∗ bigSep Finset.univ (leavePay X I W 2 c) ∗ bigSep Finset.univ fun r => semVal (kcell (c, some (2, some r))) 0)
            -∗ run c k Q))
      ⊢ run c (all doneY k) Q :=
  phase_done X I W K c 2 doneY _ (fun _ => rfl) (fun r => wpE_waitDma2_eq 𝒱₀ (c : Thread nD τ) none Set.univ) Q k

end Phases

end Cert.Moe
-- ==== Proof.Slots.lean ====
/-
# Buffers and their slots

A buffer is its 32 slots, a histogram row is 32 shares of it, the semaphores are the barrier's and three kinds of 32; and
the rectangles the program loads and stores through lie in the slots they are meant for.
-/
module

public import proofs.«01_k».proof.Proof.Phases

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over slots and over semaphores -/

section Sums
variable {M : Type} [URA M]

theorem univ_slots : (Finset.univ : Finset (Fin 32)) = insert own (Finset.univ.map ⟨slot, fun _ _ => slot_inj⟩) := by decide

/-- The own slot and the peers'. -/
theorem bigSep_slots (Φ : Fin 32 → sProp M) :
    bigSep Finset.univ Φ = iprop(Φ own ∗ bigSep Finset.univ fun r : Fin 31 => Φ (slot r)) := by
  have h : own ∉ (Finset.univ : Finset (Fin 31)).map ⟨slot, fun _ _ => slot_inj⟩ := by
    simp only [Finset.mem_map, Finset.mem_univ, true_and, not_exists]; exact fun r => slot_ne_own r
  rw [univ_slots]
  exact (bigSep_insert h).trans (by rw [bigSep_map]; rfl)

theorem bigSep_option {α : Type} [Fintype α] [DecidableEq α] (Φ : Option α → sProp M) :
    bigSep Finset.univ Φ = iprop(Φ none ∗ bigSep Finset.univ fun a => Φ (some a)) := by
  have h : none ∉ (Finset.univ : Finset α).map Function.Embedding.some := by simp
  have hu : (Finset.univ : Finset (Option α)) = insert none (Finset.univ.map Function.Embedding.some) := by
    ext x; cases x <;> simp
  rw [hu]
  exact (bigSep_insert h).trans (by rw [bigSep_map]; rfl)

theorem bigSep_three (Φ : Fin 3 → sProp M) : bigSep Finset.univ Φ = iprop(Φ 0 ∗ Φ 1 ∗ Φ 2) :=
  bigSep_univ_eq_bigSepL [0, 1, 2] (by decide) (by decide) Φ

/-- The kernel's own semaphores one kind after the other. -/
theorem bigSep_own (Φ : Kd → sProp M) : bigSep Finset.univ Φ
    = iprop((Φ (0, none) ∗ bigSep Finset.univ fun r => Φ (0, some r)) ∗ (Φ (1, none) ∗ bigSep Finset.univ fun r => Φ (1, some r))
        ∗ (Φ (2, none) ∗ bigSep Finset.univ fun r => Φ (2, some r))) := by
  rw [bigSep_univ_prod, bigSep_three, bigSep_option, bigSep_option, bigSep_option]

/-- And the barrier's before them. -/
theorem bigSep_kinds (Φ : Option Kd → sProp M) : bigSep Finset.univ Φ
    = iprop(Φ none ∗ (Φ (some (0, none)) ∗ bigSep Finset.univ fun r => Φ (some (0, some r)))
        ∗ (Φ (some (1, none)) ∗ bigSep Finset.univ fun r => Φ (some (1, some r)))
        ∗ (Φ (some (2, none)) ∗ bigSep Finset.univ fun r => Φ (some (2, some r)))) := by
  rw [bigSep_option, bigSep_own]

end Sums

/-! ## Buffers and their slots -/

theorem h_slots (c : Dev nD) (q : PosShare TreeShare) (f : Vec F S32x128 .i32) :
    ((c : Thread nD τ).loc cc0_scratch4 ↦{q} f : sProp 𝕄) = bigSep Finset.univ fun j => hPts c j q f := by
  unfold hPts
  exact (congrArg (fun S => ((c : Thread nD τ).loc cc0_scratch4 ↦[S]{q} f : sProp 𝕄)) cover_H.symm).trans
    (pointsTo_biUnion _ _ fun _ _ _ _ h => disj_H h)
theorem s_slots (c : Dev nD) (f : Vec F S32x4x40x256 .bf16) :
    ((c : Thread nD τ).loc cc0_scratch0 ↦{fullShare} f : sProp 𝕄) = bigSep Finset.univ fun j => sPts c j f := by
  unfold sPts
  exact (congrArg (fun S => ((c : Thread nD τ).loc cc0_scratch0 ↦[S]{fullShare} f : sProp 𝕄)) cover_D.symm).trans
    (pointsTo_biUnion _ _ fun _ _ _ _ h => disj_D h)
theorem r_slots (c : Dev nD) (f : Vec F S32x4x40x256 .bf16) :
    ((c : Thread nD τ).loc cc0_scratch1 ↦{fullShare} f : sProp 𝕄) = bigSep Finset.univ fun j => rPts c j f := by
  unfold rPts
  exact (congrArg (fun S => ((c : Thread nD τ).loc cc0_scratch1 ↦[S]{fullShare} f : sProp 𝕄)) cover_D.symm).trans
    (pointsTo_biUnion _ _ fun _ _ _ _ h => disj_D h)
theorem y_slots (c : Dev nD) (f : Vec F S32x4x40x512 .bf16) :
    ((c : Thread nD τ).loc cc0_scratch2 ↦{fullShare} f : sProp 𝕄) = bigSep Finset.univ fun j => yPts c j f := by
  unfold yPts
  exact (congrArg (fun S => ((c : Thread nD τ).loc cc0_scratch2 ↦[S]{fullShare} f : sProp 𝕄)) cover_Y.symm).trans
    (pointsTo_biUnion _ _ fun _ _ _ _ h => disj_Y h)
theorem z_slots (c : Dev nD) (f : Vec F S32x4x40x512 .bf16) :
    ((c : Thread nD τ).loc cc0_scratch3 ↦{fullShare} f : sProp 𝕄) = bigSep Finset.univ fun j => zPts c j f := by
  unfold zPts
  exact (congrArg (fun S => ((c : Thread nD τ).loc cc0_scratch3 ↦[S]{fullShare} f : sProp 𝕄)) cover_Y.symm).trans
    (pointsTo_biUnion _ _ fun _ _ _ _ h => disj_Y h)

/-- A histogram row in 32 shares: one for each copy, one kept. -/
theorem h_shares (c : Dev nD) (j : Fin 32) (f : Vec F S32x128 .i32) :
    (hPts c j fullShare f : sProp 𝕄) = iprop(hPts c j (part own) f ∗ bigSep Finset.univ fun r => hPts c j (part (slot r)) f) := by
  have e : (32 : ℕ) = 2 ^ 5 := by norm_num
  refine Eq.trans ?_ (bigSep_slots fun i => hPts c j (part i) f)
  refine Eq.trans ?_ (bigSep_univ_equiv (finCongr e) fun i => ((c : Thread nD τ).loc cc0_scratch4 ↦[setH j]{ShareLeaves.leaf 5 fullShare i} f : sProp 𝕄))
  exact ShareLeaves.pointsTo_leaves (ℓ := (c : Thread nD τ).loc cc0_scratch4) (setH j) f 5 fullShare

/-- The peers' rows of the table of histograms together. -/
def rows31 : Finset S32x128.Idx := (Finset.univ : Finset (Fin 31)).biUnion fun r => setH (slot r)
theorem h_rows (c : Dev nD) (f : Vec F S32x128 .i32) :
    ((c : Thread nD τ).loc cc0_scratch4 ↦[rows31]{fullShare} f : sProp 𝕄)
      = bigSep Finset.univ fun r => hPts c (slot r) fullShare f := by
  unfold rows31 hPts
  exact pointsTo_biUnion _ _ fun _ _ _ _ h => disj_H fun h' => h (slot_inj h')

/-- The five buffers of the kernel's own. -/
def scratch (c : Dev nD) : sProp 𝕄 :=
  iprop((∃ f : Vec F S32x4x40x256 .bf16, (c : Thread nD τ).loc cc0_scratch0 ↦{fullShare} f)
    ∗ (∃ f : Vec F S32x4x40x256 .bf16, (c : Thread nD τ).loc cc0_scratch1 ↦{fullShare} f)
    ∗ (∃ f : Vec F S32x4x40x512 .bf16, (c : Thread nD τ).loc cc0_scratch2 ↦{fullShare} f)
    ∗ (∃ f : Vec F S32x4x40x512 .bf16, (c : Thread nD τ).loc cc0_scratch3 ↦{fullShare} f)
    ∗ (∃ f : Vec F S32x128 .i32, (c : Thread nD τ).loc cc0_scratch4 ↦{fullShare} f))

/-- The buffers taken apart: what stays, and the slots the peers are given. -/
theorem scratch_open (c : Dev nD) : (scratch c : sProp 𝕄)
    ⊢ iprop((∃ f : Vec F S32x4x40x256 .bf16, (c : Thread nD τ).loc cc0_scratch0 ↦{fullShare} f)
      ∗ (∃ f : Vec F S32x4x40x512 .bf16, (c : Thread nD τ).loc cc0_scratch2 ↦{fullShare} f)
      ∗ (∃ f, hPts c own fullShare f) ∗ (∃ f, rPts c own f) ∗ (∃ f, zPts c own f) ∗ bigSep Finset.univ (gift (F := F) c)) := by
  unfold scratch
  iintro ⟨Hs, ⟨%fr, Hr⟩, Hy, ⟨%fz, Hz⟩, ⟨%fh, Hh⟩⟩
  ihave Hr' := (Entails.of_eq ((r_slots c fr).trans (bigSep_slots _))) $$ Hr
  icases Hr' with ⟨Hro, Hrs⟩
  ihave Hz' := (Entails.of_eq ((z_slots c fz).trans (bigSep_slots _))) $$ Hz
  icases Hz' with ⟨Hzo, Hzs⟩
  ihave Hh' := (Entails.of_eq ((h_slots c fullShare fh).trans (bigSep_slots _))) $$ Hh
  icases Hh' with ⟨Hho, Hhs⟩
  isplitl [Hs]; · iexact Hs
  isplitl [Hy]; · iexact Hy
  isplitl [Hho]; · iexists fh; iexact Hho
  isplitl [Hro]; · iexists fr; iexact Hro
  isplitl [Hzo]; · iexists fz; iexact Hzo
  iapply (show iprop((bigSep Finset.univ fun r => hPts c (slot r) fullShare fh) ∗ (bigSep Finset.univ fun r => rPts c (slot r) fr)
      ∗ bigSep Finset.univ fun r => zPts c (slot r) fz) ⊢ (bigSep Finset.univ (gift (F := F) c) : sProp 𝕄) by
    rw [← bigSep_sep', ← bigSep_sep']
    exact bigSep_mono fun r _ => show iprop(hPts c (slot r) fullShare fh ∗ rPts c (slot r) fr ∗ zPts c (slot r) fz) ⊢ gift c r by
      unfold gift
      iintro ⟨H1, H2, H3⟩
      isplitl [H1]; · iexists fh; iexact H1
      isplitl [H2]; · iexists fr; iexact H2
      iexists fz; iexact H3)
  isplitl [Hhs]; · iexact Hhs
  isplitl [Hrs]; · iexact Hrs
  iexact Hzs

/-- What the peers have given when the barrier is passed. -/
theorem gifts_open (c : Dev nD) : (bigSep Finset.univ fun d : Fin 31 => gift (F := F) (peer c (slot d)) (back d) : sProp 𝕄)
    = iprop((bigSep Finset.univ fun r => iprop(∃ f, hPts (peer c (slot r)) (slot (back r)) fullShare f))
        ∗ (bigSep Finset.univ fun r => iprop(∃ f, rPts (peer c (slot r)) (slot (back r)) f))
        ∗ bigSep Finset.univ fun r => iprop(∃ f, zPts (peer c (slot r)) (slot (back r)) f)) := by
  unfold gift
  rw [bigSep_sep', bigSep_sep']

/-! ## What the lines read and write -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_x (f : Vec F S1024x256 .bf16) : (xM : Memref sig .tc .vmem S1024x256 .bf16).view.readAt (Elt F)
    (Rect.unit (s := S1024x256) ![0, 0] S1024x256.size inb_S1024x256_S1024x256_0_0).toLoadRect f = f :=
  Memref.readAt_unit_zero (Elt F) cc0_stg0_0 hz2 _ f
theorem read_i (f : Vec F S1024x1 .i32) : (iM : Memref sig .tc .vmem S1024x1 .i32).view.readAt (Elt F)
    (Rect.unit (s := S1024x1) ![0, 0] S1024x1.size inb_S1024x1_S1024x1_0_0).toLoadRect f = f :=
  Memref.readAt_unit_zero (Elt F) cc0_stg1_0 hz2 _ f
theorem read_w (f : Vec F S4x256x512 .bf16) : (wM : Memref sig .tc .vmem S4x256x512 .bf16).view.readAt (Elt F)
    (Rect.unit (s := S4x256x512) ![0, 0, 0] S4x256x512.size inb_S4x256x512_S4x256x512_0_0_0).toLoadRect f = f :=
  Memref.readAt_unit_zero (Elt F) cc0_stg2_0 hz3 _ f
theorem read_z (f : Vec F S32x4x40x512 .bf16) : (zM : Memref sig .tc .vmem S32x4x40x512 .bf16).view.readAt (Elt F)
    (Rect.unit (s := S32x4x40x512) ![0, 0, 0, 0] S32x4x40x512.size inb_S32x4x40x512_S32x4x40x512_0_0_0_0).toLoadRect f = f :=
  Memref.readAt_unit_zero (Elt F) cc0_scratch3 hz4 _ f
theorem write_s (f w : Vec F S32x4x40x256 .bf16) : ((sM : Memref sig .tc .vmem S32x4x40x256 .bf16).access
    (Rect.unit (s := S32x4x40x256) ![0, 0, 0, 0] S32x4x40x256.size inb_S32x4x40x256_S32x4x40x256_0_0_0_0) : View sig .tc _ _ _).write
      (Elt F) f w Finset.univ = w :=
  Memref.write_access_unit_zero_univ (Elt F) cc0_scratch0 hz4 _ f w
theorem write_o (f w : Vec F S1024x512 .f32) : ((oM : Memref sig .tc .vmem S1024x512 .f32).access
    (Rect.unit (s := S1024x512) ![0, 0] S1024x512.size inb_S1024x512_S1024x512_0_0) : View sig .tc _ _ _).write
      (Elt F) f w Finset.univ = w :=
  Memref.write_access_unit_zero_univ (Elt F) cc0_stg3_0 hz2 _ f w

theorem load_H (j : Fin 32) : (hM : Memref sig .tc .vmem S32x128 .i32).view.setOn (rectH j).toLoadRect.set ⊆ setH j := by
  rw [← rectH_set]; exact (Finset.map_refl).subset
theorem store_H (j : Fin 32) : ((hM : Memref sig .tc .vmem S32x128 .i32).access (rectH j) : View sig .tc _ _ _).setOn Finset.univ ⊆ setH j := by
  rw [← rectH_set, ← View.set_slice_whole cc0_scratch4 (rectH j)]; exact subset_rfl
theorem load_R (j : Fin 32) : (rM : Memref sig .tc .vmem S32x4x40x256 .bf16).view.setOn (rectD j).toLoadRect.set ⊆ setD j := by
  rw [← rectD_set]; exact (Finset.map_refl).subset
theorem store_R (j : Fin 32) : ((rM : Memref sig .tc .vmem S32x4x40x256 .bf16).access (rectD j) : View sig .tc _ _ _).setOn Finset.univ ⊆ setD j := by
  rw [← rectD_set, ← View.set_slice_whole cc0_scratch1 (rectD j)]; exact subset_rfl
theorem load_Z (j : Fin 32) : (zM : Memref sig .tc .vmem S32x4x40x512 .bf16).view.setOn (rectY j).toLoadRect.set ⊆ setY j := by
  rw [← rectY_set]; exact (Finset.map_refl).subset
theorem store_Z (j : Fin 32) : ((zM : Memref sig .tc .vmem S32x4x40x512 .bf16).access (rectY j) : View sig .tc _ _ _).setOn Finset.univ ⊆ setY j := by
  rw [← rectY_set, ← View.set_slice_whole cc0_scratch3 (rectY j)]; exact subset_rfl

abbrev rect31 : Rect S32x128 := Rect.unit (s := S32x128) ![0, 0] S31x128.size inb_S32x128_S31x128_0_0
theorem load_31 : (hM : Memref sig .tc .vmem S32x128 .i32).view.setOn rect31.toLoadRect.set ⊆ rows31 := by
  intro i hi
  have hi : i ∈ rect31.set := (Finset.map_refl (s := rect31.set)).subset hi
  have h0 := (Rect.mem_set_unit.mp hi) 0
  simp at h0
  exact Finset.mem_biUnion.mpr ⟨⟨(i 0).val, h0⟩, Finset.mem_univ _, mem_setH.mpr rfl⟩

end Cert.Moe
-- ==== Proof.Body.lean ====
/-
# One device's run of the program

From its buffers, its tokens and what all devices know, a device runs the whole program and ends with its result
written, its inputs untouched, its buffers whole again and all its semaphores at zero.
-/
module

public import proofs.«01_k».proof.Proof.Slots

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program -/

section Body

variable (X : Dev nD → Vec F S1024x256 .bf16) (I : Dev nD → Vec F S1024x1 .i32) (W : Dev nD → Vec F S4x256x512 .bf16)
variable (K : Dev nD × Option Kd → ℕ)

/-- The tokens of the duties device `c` pays. -/
def payToks (c : Dev nD) : sProp 𝕄 :=
  iprop((bigSep Finset.univ fun r => tok (peer c (slot r)) none (back r)) ∗ copyToks 0 c ∗ copyToks 1 c ∗ copyToks 2 c)

/-- The right to wait for what the peers send. -/
def waitCreds (c : Dev nD) : sProp 𝕄 :=
  iprop(cred (tallyAt (barCell c) () 31) ∗ cred (tallyAt (landCell 0 c) () (31 * amt 0))
    ∗ cred (tallyAt (landCell 1 c) () (31 * amt 1)) ∗ cred (tallyAt (landCell 2 c) () (31 * amt 2)))

/-- Device `c`'s inputs, staged. -/
def inputs (c : Dev nD) : sProp 𝕄 :=
  iprop(((c : Thread nD τ).loc cc0_stg0_0 ↦{fullShare} X c) ∗ ((c : Thread nD τ).loc cc0_stg1_0 ↦{fullShare} I c)
    ∗ ((c : Thread nD τ).loc cc0_stg2_0 ↦{fullShare} W c))

def progPre (c : Dev nD) : sProp 𝕄 :=
  iprop((records X I W K ∗ (bigSep Finset.univ fun k => atPos ER (kcell (c, k)) 0 ∅ 0) ∗ payToks c)
    ∗ waitCreds c ∗ levAts L lv ∗ scratch c ∗ Ow c (O₀ c) ∗ inputs X I W c
    ∗ ∃ f : Vec F S1024x512 .f32, (c : Thread nD τ).loc cc0_stg3_0 ↦{fullShare} f)

def progPost (c : Dev nD) : sProp 𝕄 :=
  iprop((scratch c ∗ bigSep Finset.univ fun k => semVal (kcell (c, k)) 0) ∗ Ow c 0 ∗ inputs X I W c
    ∗ ((c : Thread nD τ).loc cc0_stg3_0 ↦{fullShare} outB X I W c))

theorem lift_bind {α : Type} (e : TpuEff nD τ sig (Elt F) Λ₀ .tc α) (k : α → P F PUnit) : (Prog.lift e).bind k = .op e k := rfl
theorem op_bind {α : Type} (e : TpuEff nD τ sig (Elt F) Λ₀ .tc α) (k : α → P F PUnit) : (Prog.op e Prog.ret).bind k = .op e k := rfl

/-- What passing the barrier brings, and what a wait for all copies of a kind brings. -/
theorem bar_gifts (c : Dev nD) : bigSep (dutiesOf none \ ∅) (payOf X I W none c)
    = iprop((bigSep Finset.univ fun r => iprop(∃ f, hPts (peer c (slot r)) (slot (back r)) fullShare f))
        ∗ (bigSep Finset.univ fun r => iprop(∃ f, rPts (peer c (slot r)) (slot (back r)) f))
        ∗ bigSep Finset.univ fun r => iprop(∃ f, zPts (peer c (slot r)) (slot (back r)) f)) := by
  rw [Finset.sdiff_empty]; exact gifts_open (F := F) c
theorem land_all (c : Dev nD) (t : Fin 3) : bigSep (dutiesOf (some (t, none)) \ ∅) (payOf X I W (some (t, none)) c)
    = bigSep Finset.univ (landPay X I W t c) := by
  rw [Finset.sdiff_empty]; rfl

/-- What the stores of whole buffers leave, the stored values written out. -/
theorem store_s (c : Dev nD) (f : Vec F S32x4x40x256 .bf16) : ((sM : Memref sig .tc .vmem S32x4x40x256 .bf16).access
    (Rect.unit (s := S32x4x40x256) ![0, 0, 0, 0] S32x4x40x256.size inb_S32x4x40x256_S32x4x40x256_0_0_0_0) : View sig .tc _ _ _).write
      (Elt F) f (k0_pay9 (k0_pay1 (X c)) (k0_pay5 (k0_pay2 (F := F) (I c))) (k0_pay6 (k0_pay2 (F := F) (I c)))
        (k0_pay7 (meW c) (k0_pay2 (F := F) (I c))) 1#32) Finset.univ = sB X I c :=
  write_s f _
theorem store_o (c : Dev nD) (f : Vec F S1024x512 .f32) : ((oM : Memref sig .tc .vmem S1024x512 .f32).access
    (Rect.unit (s := S1024x512) ![0, 0] S1024x512.size inb_S1024x512_S1024x512_0_0) : View sig .tc _ _ _).write
      (Elt F) f (k0_pay22 (k0_pay8 (k0_pay5 (k0_pay2 (F := F) (I c))) (k0_pay6 (k0_pay2 (F := F) (I c)))
          (k0_pay7 (meW c) (k0_pay2 (F := F) (I c))) 1#32)
        (k0_pay12 (k0_pay5 (k0_pay2 (F := F) (I c))) (k0_pay11 (meW c) (k0_pay3 (I c)) (hC I c))) (zB X I W c)) Finset.univ
      = outB X I W c :=
  write_o f _
theorem store_y (c : Dev nD) (f : Vec F S32x4x40x512 .bf16) :
    ((yM : Memref sig .tc .vmem S32x4x40x512 .bf16).access (rectE 3) : View sig .tc _ _ _).write (Elt F)
      (((yM : Memref sig .tc .vmem S32x4x40x512 .bf16).access (rectE 2) : View sig .tc _ _ _).write (Elt F)
        (((yM : Memref sig .tc .vmem S32x4x40x512 .bf16).access (rectE 1) : View sig .tc _ _ _).write (Elt F)
          (((yM : Memref sig .tc .vmem S32x4x40x512 .bf16).access (rectE 0) : View sig .tc _ _ _).write (Elt F) f
            (k0_pay14 (W c) (rC X I c 0)) Finset.univ)
          (k0_pay17 (k0_pay15 (rC X I c 1)) (k0_pay16 (W c))) Finset.univ)
        (k0_pay18 (k0_pay13 (W c)) (rC X I c 2)) Finset.univ)
      (k0_pay19 (k0_pay13 (W c)) (rC X I c 3)) Finset.univ = yB X I W c :=
  stE_all X I W c f

/-- The landed token rows with the own slot are the whole buffer; so are the computed rows. -/
theorem join_R (c : Dev nD) : iprop(rPts c own (rB X I c) ∗ bigSep Finset.univ (landPay X I W 1 c))
    = ((c : Thread nD τ).loc cc0_scratch1 ↦{fullShare} rB X I c : sProp 𝕄) :=
  ((r_slots c (rB X I c)).trans (bigSep_slots _)).symm
theorem join_Z (c : Dev nD) : iprop(zPts c own (zB X I W c) ∗ bigSep Finset.univ (landPay X I W 2 c))
    = ((c : Thread nD τ).loc cc0_scratch3 ↦{fullShare} zB X I W c : sProp 𝕄) :=
  ((z_slots c (zB X I W c)).trans (bigSep_slots _)).symm
theorem join_S (c : Dev nD) : iprop(sPts c own (sB X I c) ∗ bigSep Finset.univ (leavePay X I W 1 c))
    = ((c : Thread nD τ).loc cc0_scratch0 ↦{fullShare} sB X I c : sProp 𝕄) :=
  ((s_slots c (sB X I c)).trans (bigSep_slots _)).symm
theorem join_Y (c : Dev nD) : iprop(yPts c own (yB X I W c) ∗ bigSep Finset.univ (leavePay X I W 2 c))
    = ((c : Thread nD τ).loc cc0_scratch2 ↦{fullShare} yB X I W c : sProp 𝕄) :=
  ((y_slots c (yB X I W c)).trans (bigSep_slots _)).symm
theorem join_H (c : Dev nD) : iprop((hPts c own (part own) (histB I c) ∗ bigSep Finset.univ (leavePay X I W 0 c))
      ∗ bigSep Finset.univ fun r => hPts c (slot r) fullShare (histB I c))
    = ((c : Thread nD τ).loc cc0_scratch4 ↦{fullShare} histB I c : sProp 𝕄) :=
  (congrArg (fun A => iprop(A ∗ bigSep Finset.univ fun r => hPts c (slot r) fullShare (histB I c)))
    (h_shares c own (histB I c)).symm).trans ((h_slots c fullShare (histB I c)).trans (bigSep_slots _)).symm

set_option maxHeartbeats 1000000 in
theorem sound_prog (c : Dev nD) (Q : PUnit → sProp 𝕄) :
    iprop(progPre X I W K c ∗ (progPost X I W c -∗ Q ⟨⟩)) ⊢ run c prog Q := by
  unfold prog
  rw [lift_bind]; unfold run; rw [wp_deviceId, show (c : Thread nD τ).1 = c from rfl]
  unfold progPre payToks waitCreds inputs O₀
  rw [bigSep_kinds]
  iintro ⟨⟨⟨#HR, ⟨HatB, ⟨HatH, HatHs⟩, ⟨HatD, HatDs⟩, ⟨HatY, HatYs⟩⟩, HtB, HtH, HtD, HtY⟩, ⟨HcB, HcH, HcD, HcY⟩, #Hl, Hscr, HO, ⟨Hx, Hi, Hw⟩, ⟨%fo, Ho⟩⟩, Hk⟩
  ihave Hscr' := (scratch_open c) $$ Hscr
  icases Hscr' with ⟨⟨%fs, Hs⟩, ⟨%fy, Hy⟩, ⟨%fh, Hh⟩, ⟨%fr, Hr⟩, ⟨%fz, Hz⟩, Hg⟩
  -- the signals
  iapply (phase_sig X I W K c _ Q _)
  isplitr; · iexact HR
  isplitl [HO]; · iexact HO
  isplitl [HtB]; · iexact HtB
  isplitl [Hg]; · iexact Hg
  iintro HO
  -- the barrier
  unfold semWaitWord; rw [op_bind]
  iapply (line_round X I W K c none (wpE_semWait_eq 𝒱₀ (c : Thread nD τ) none Set.univ) 0 ∅ (by decide) _ (mayWait_bar c) Q _)
  isplitr; · iexact HR
  isplitr; · iexact Hl
  isplitl [HO]; · iexact HO
  isplitl [HcB]; · iexact HcB
  isplitl [HatB]; · iexact HatB
  iintro ⟨HO, HatB, Hp⟩
  ihave Hp' := (Entails.of_eq (bar_gifts X I W c)) $$ Hp
  icases Hp' with ⟨HgH, HgD, HgY⟩
  -- the inputs are read, the own histogram is written
  rw [lift_bind]
  iapply (wp_load 𝒱₀ (c : Thread nD τ) none Set.univ (m := xM) (Finset.subset_univ _)) $$ Hx; iintro Hx
  rw [read_x, lift_bind]
  iapply (wp_load 𝒱₀ (c : Thread nD τ) none Set.univ (m := iM) (Finset.subset_univ _)) $$ Hi; iintro Hi
  rw [read_i]
  rw [lift_bind]
  ihave Hh := (Entails.of_eq (show hPts c own fullShare fh = ((c : Thread nD τ).loc cc0_scratch4 ↦[setH own]{fullShare} fh : sProp 𝕄) from rfl)) $$ Hh
  iapply (wp_load 𝒱₀ (c : Thread nD τ) none Set.univ (m := hM) (load_H own)) $$ Hh; iintro Hh
  rw [lift_bind]
  iapply (wp_store 𝒱₀ (c : Thread nD τ) none Set.univ (m := hM) (r := rectH own) (store_H own)) $$ Hh; iintro Hh
  ihave Hh' := (Entails.of_eq ((show ((c : Thread nD τ).loc cc0_scratch4 ↦[setH own]{fullShare} _ : sProp 𝕄) = hPts c own fullShare (histB I c)
    from pointsTo_congr fun i hi => own_histB I c fh i hi).trans (h_shares c own (histB I c)))) $$ Hh
  icases Hh' with ⟨Hh, Hhs⟩
  iapply (phase_copyH X I W K c _ Q _)
  isplitr; · iexact HR
  isplitl [HO]; · iexact HO
  isplitl [Hhs]; · iexact Hhs
  isplitl [HgH]; · iexact HgH
  isplitl [HtH]; · iexact HtH
  iintro ⟨HO, HcHs⟩
  -- the token rows
  rw [lift_bind]
  iapply (wp_load 𝒱₀ (c : Thread nD τ) none Set.univ (m := sM) (Finset.subset_univ _)) $$ Hs; iintro Hs
  rw [lift_bind]
  iapply (wp_store 𝒱₀ (c : Thread nD τ) none Set.univ (m := sM)
    (r := Rect.unit (s := S32x4x40x256) ![0, 0, 0, 0] S32x4x40x256.size inb_S32x4x40x256_S32x4x40x256_0_0_0_0) (Finset.subset_univ _)) $$ Hs; iintro Hs
  ihave Hs := (Entails.of_eq (show ((c : Thread nD τ).loc cc0_scratch0 ↦{fullShare} _ : sProp 𝕄)
    = ((c : Thread nD τ).loc cc0_scratch0 ↦{fullShare} sB X I c) from
      congrArg (fun f => ((c : Thread nD τ).loc cc0_scratch0 ↦{fullShare} f : sProp 𝕄)) (store_s X I c fs))) $$ Hs
  rw [lift_bind]
  iapply (wp_load 𝒱₀ (c : Thread nD τ) none Set.univ (m := sM) (Finset.subset_univ _)) $$ Hs; iintro Hs
  rw [lift_bind]
  ihave Hr := (Entails.of_eq (show rPts c own fr = ((c : Thread nD τ).loc cc0_scratch1 ↦[setD own]{fullShare} fr : sProp 𝕄) from rfl)) $$ Hr
  iapply (wp_load 𝒱₀ (c : Thread nD τ) none Set.univ (m := rM) (load_R own)) $$ Hr; iintro Hr
  rw [lift_bind]
  iapply (wp_store 𝒱₀ (c : Thread nD τ) none Set.univ (m := rM) (r := rectD own) (store_R own)) $$ Hr; iintro Hr
  ihave Hr' := (Entails.of_eq (show ((c : Thread nD τ).loc cc0_scratch1 ↦[setD own]{fullShare} _ : sProp 𝕄) = rPts c own (rB X I c)
    from pointsTo_congr fun i hi => own_rB X I c fr i hi)) $$ Hr
  ihave Hs' := (Entails.of_eq ((s_slots c (sB X I c)).trans (bigSep_slots _))) $$ Hs
  icases Hs' with ⟨Hs, Hss⟩
  iapply (phase_copyD X I W K c _ Q _)
  isplitr; · iexact HR
  isplitl [HO]; · iexact HO
  isplitl [Hss]; · iexact Hss
  isplitl [HgD]; · iexact HgD
  isplitl [HtD]; · iexact HtD
  iintro ⟨HO, HcDs⟩
  -- the peers' histograms
  iapply (phase_waitH X I W K c Q _)
  isplitr; · iexact HR
  isplitr; · iexact Hl
  isplitl [HO]; · iexact HO
  isplitl [HcH]; · iexact HcH
  isplitl [HatH]; · iexact HatH
  iintro ⟨HO, HatH, Hp⟩
  ihave Hp' := (Entails.of_eq (h_rows c (histB I c)).symm) $$ Hp
  rw [lift_bind]
  iapply (wp_load 𝒱₀ (c : Thread nD τ) none Set.univ (m := hM) load_31) $$ Hp'; iintro Hp'
  rw [read_hC]
  -- the peers' token rows
  unfold waitD; rw [lift_bind]
  iapply (line_round X I W K c (some (1, none)) (wpE_waitDma2_eq 𝒱₀ (c : Thread nD τ) none Set.univ) 0 ∅
    (by rw [zero_add]; exact amt_D31) _ (mayWait_land c 1 (by decide)) Q _)
  isplitr; · iexact HR
  isplitr; · iexact Hl
  isplitl [HO]; · iexact HO
  isplitl [HcD]; · iapply (Entails.of_eq (congrArg (fun n => (cred (tallyAt (landCell 1 c) () n) : sProp 𝕄)) amt_D31.symm)); iexact HcD
  isplitl [HatD]; · iexact HatD
  iintro ⟨HO, HatD, Hq⟩
  ihave Hq' := (Entails.of_eq (land_all X I W c 1)) $$ Hq
  ihave Hr := (Entails.of_eq (join_R X I W c)) $$ [Hr' Hq']
  · isplitl [Hr'] <;> iassumption
  -- the computed rows
  rw [lift_bind]
  iapply (wp_load 𝒱₀ (c : Thread nD τ) none Set.univ (m := wM) (Finset.subset_univ _)) $$ Hw; iintro Hw
  rw [read_w]
  unfold getR putY
  rw [lift_bind]
  iapply (wp_load 𝒱₀ (c : Thread nD τ) none Set.univ (m := rM) (Finset.subset_univ _)) $$ Hr; iintro Hr
  rw [read_rC, lift_bind]
  iapply (wp_load 𝒱₀ (c : Thread nD τ) none Set.univ (m := yM) (Finset.subset_univ _)) $$ Hy; iintro Hy
  rw [lift_bind]
  iapply (wp_store 𝒱₀ (c : Thread nD τ) none Set.univ (m := yM) (r := rectE 0) (Finset.subset_univ _)) $$ Hy; iintro Hy
  rw [lift_bind]
  iapply (wp_load 𝒱₀ (c : Thread nD τ) none Set.univ (m := rM) (Finset.subset_univ _)) $$ Hr; iintro Hr
  rw [read_rC, lift_bind]
  iapply (wp_load 𝒱₀ (c : Thread nD τ) none Set.univ (m := yM) (Finset.subset_univ _)) $$ Hy; iintro Hy
  rw [lift_bind]
  iapply (wp_store 𝒱₀ (c : Thread nD τ) none Set.univ (m := yM) (r := rectE 1) (Finset.subset_univ _)) $$ Hy; iintro Hy
  rw [lift_bind]
  iapply (wp_load 𝒱₀ (c : Thread nD τ) none Set.univ (m := rM) (Finset.subset_univ _)) $$ Hr; iintro Hr
  rw [read_rC, lift_bind]
  iapply (wp_load 𝒱₀ (c : Thread nD τ) none Set.univ (m := yM) (Finset.subset_univ _)) $$ Hy; iintro Hy
  rw [lift_bind]
  iapply (wp_store 𝒱₀ (c : Thread nD τ) none Set.univ (m := yM) (r := rectE 2) (Finset.subset_univ _)) $$ Hy; iintro Hy
  rw [lift_bind]
  iapply (wp_load 𝒱₀ (c : Thread nD τ) none Set.univ (m := rM) (Finset.subset_univ _)) $$ Hr; iintro Hr
  rw [read_rC, lift_bind]
  iapply (wp_load 𝒱₀ (c : Thread nD τ) none Set.univ (m := yM) (Finset.subset_univ _)) $$ Hy; iintro Hy
  rw [lift_bind]
  iapply (wp_store 𝒱₀ (c : Thread nD τ) none Set.univ (m := yM) (r := rectE 3) (Finset.subset_univ _)) $$ Hy; iintro Hy
  ihave Hy := (Entails.of_eq (show ((c : Thread nD τ).loc cc0_scratch2 ↦{fullShare} _ : sProp 𝕄)
    = ((c : Thread nD τ).loc cc0_scratch2 ↦{fullShare} yB X I W c) from
      congrArg (fun f => ((c : Thread nD τ).loc cc0_scratch2 ↦{fullShare} f : sProp 𝕄)) (store_y X I W c fy))) $$ Hy
  rw [lift_bind]
  iapply (wp_load 𝒱₀ (c : Thread nD τ) none Set.univ (m := yM) (Finset.subset_univ _)) $$ Hy; iintro Hy
  rw [lift_bind]
  ihave Hz := (Entails.of_eq (show zPts c own fz = ((c : Thread nD τ).loc cc0_scratch3 ↦[setY own]{fullShare} fz : sProp 𝕄) from rfl)) $$ Hz
  iapply (wp_load 𝒱₀ (c : Thread nD τ) none Set.univ (m := zM) (load_Z own)) $$ Hz; iintro Hz
  rw [lift_bind]
  iapply (wp_store 𝒱₀ (c : Thread nD τ) none Set.univ (m := zM) (r := rectY own) (store_Z own)) $$ Hz; iintro Hz
  ihave Hz' := (Entails.of_eq (show ((c : Thread nD τ).loc cc0_scratch3 ↦[setY own]{fullShare} _ : sProp 𝕄) = zPts c own (zB X I W c)
    from pointsTo_congr fun i hi => own_zB X I W c fz i hi)) $$ Hz
  ihave Hy' := (Entails.of_eq ((y_slots c (yB X I W c)).trans (bigSep_slots _))) $$ Hy
  icases Hy' with ⟨Hy, Hys⟩
  iapply (phase_copyY X I W K c 0 Q _)
  isplitr; · iexact HR
  isplitl [HO]; · rw [zero_add]; iexact HO
  isplitl [Hys]; · iexact Hys
  isplitl [HgY]; · iexact HgY
  isplitl [HtY]; · iexact HtY
  iintro ⟨HO, HcYs⟩
  -- the computed rows come back
  unfold waitY; rw [lift_bind]
  iapply (line_round X I W K c (some (2, none)) (wpE_waitDma2_eq 𝒱₀ (c : Thread nD τ) none Set.univ) 0 ∅
    (by rw [zero_add]; exact amt_Y31) 0 (by rw [MayWait_zero]; iintro -; iempintro) Q _)
  isplitr; · iexact HR
  isplitr; · iexact Hl
  isplitl [HO]; · iexact HO
  isplitl [HcY]; · iapply (Entails.of_eq (congrArg (fun n => (cred (tallyAt (landCell 2 c) () n) : sProp 𝕄)) amt_Y31.symm)); iexact HcY
  isplitl [HatY]; · iexact HatY
  iintro ⟨HO, HatY, Hq⟩
  ihave Hq' := (Entails.of_eq (land_all X I W c 2)) $$ Hq
  ihave Hz := (Entails.of_eq (join_Z X I W c)) $$ [Hz' Hq']
  · isplitl [Hz'] <;> iassumption
  -- the result
  rw [lift_bind]
  iapply (wp_load 𝒱₀ (c : Thread nD τ) none Set.univ (m := zM) (Finset.subset_univ _)) $$ Hz; iintro Hz
  rw [read_z, lift_bind]
  iapply (wp_load 𝒱₀ (c : Thread nD τ) none Set.univ (m := oM) (Finset.subset_univ _)) $$ Ho; iintro Ho
  rw [lift_bind]
  iapply (wp_store 𝒱₀ (c : Thread nD τ) none Set.univ (m := oM)
    (r := Rect.unit (s := S1024x512) ![0, 0] S1024x512.size inb_S1024x512_S1024x512_0_0) (Finset.subset_univ _)) $$ Ho; iintro Ho
  ihave Ho := (Entails.of_eq (show ((c : Thread nD τ).loc cc0_stg3_0 ↦{fullShare} _ : sProp 𝕄)
    = ((c : Thread nD τ).loc cc0_stg3_0 ↦{fullShare} outB X I W c) from
      congrArg (fun f => ((c : Thread nD τ).loc cc0_stg3_0 ↦{fullShare} f : sProp 𝕄)) (store_o X I W c fo))) $$ Ho
  -- the copies have left
  iapply (phase_doneH X I W K c Q _)
  isplitr; · iexact HR
  isplitr; · iexact Hl
  isplitl [HO]; · iexact HO
  isplitl [HcHs]; · iexact HcHs
  isplitl [HatHs]; · iexact HatHs
  iintro ⟨HO, HpH, HvH⟩
  iapply (phase_doneD X I W K c Q _)
  isplitr; · iexact HR
  isplitr; · iexact Hl
  isplitl [HO]; · iexact HO
  isplitl [HcDs]; · iexact HcDs
  isplitl [HatDs]; · iexact HatDs
  iintro ⟨HO, HpD, HvD⟩
  iapply (phase_doneY X I W K c Q _)
  isplitr; · iexact HR
  isplitr; · iexact Hl
  isplitl [HO]; · iexact HO
  isplitl [HcYs]; · iexact HcYs
  isplitl [HatYs]; · iexact HatYs
  iintro ⟨HO, HpY, HvY⟩
  -- everything is whole again, and the semaphores are at zero
  imod (close_at X I W K c none) $$ [HatB] with HvB
  · isplitr; · iexact HR
    iexact HatB
  imod (close_at X I W K c (some (0, none))) $$ [HatH] with HvlH
  · isplitr; · iexact HR
    iexact HatH
  imod (close_at X I W K c (some (1, none))) $$ [HatD] with HvlD
  · isplitr; · iexact HR
    iexact HatD
  imod (close_at X I W K c (some (2, none))) $$ [HatY] with HvlY
  · isplitr; · iexact HR
    iexact HatY
  ihave Hs := (Entails.of_eq (join_S X I W c)) $$ [Hs HpD]
  · isplitl [Hs] <;> iassumption
  ihave Hy := (Entails.of_eq (join_Y X I W c)) $$ [Hy HpY]
  · isplitl [Hy] <;> iassumption
  ihave Hp := (Entails.of_eq (h_rows c (histB I c))) $$ Hp'
  ihave Hh := (Entails.of_eq (join_H X I W c)) $$ [Hh HpH Hp]
  · isplitl [Hh HpH]
    · isplitl [Hh] <;> iassumption
    · iexact Hp
  rw [wp_ret]; imodintro
  iapply Hk
  unfold progPost scratch inputs
  rw [bigSep_kinds]
  isplitl [Hs Hr Hy Hz Hh HvB HvlH HvlD HvlY HvH HvD HvY]
  · isplitl [Hs Hr Hy Hz Hh]
    · isplitl [Hs]; · iexists _; iexact Hs
      isplitl [Hr]; · iexists _; iexact Hr
      isplitl [Hy]; · iexists _; iexact Hy
      isplitl [Hz]; · iexists _; iexact Hz
      iexists _; iexact Hh
    · isplitl [HvB]; · iexact HvB
      isplitl [HvlH HvH]
      · isplitl [HvlH] <;> iassumption
      isplitl [HvlD HvD]
      · isplitl [HvlD] <;> iassumption
      · isplitl [HvlY] <;> iassumption
  isplitl [HO]; · iexact HO
  isplitl [Hx Hi Hw]
  · isplitl [Hx]; · iexact Hx
    isplitl [Hi] <;> iassumption
  iexact Ho

end Body

end Cert.Moe
-- ==== Proof.Deal.lean ====
/-
# What the devices start from

All tokens are minted with the semaphore they pay, on the device owning it, and then dealt to the device that pays:
the pair (device, line) goes to the pair (peer on that line, the line back). What a device owes on its lines is,
summed over all devices, what every device waits for.
-/
module

public import proofs.«01_k».proof.Proof.Body
public import proofs.«01_k».proof.Proof.Gen.KernelIdeal.Launch

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A line seen from its two ends -/

/-- Device and line, seen from the peer on that line. -/
def flip : Dev nD × Fin 31 ≃ Dev nD × Fin 31 where
  toFun cr := (peer cr.1 (slot cr.2), back cr.2)
  invFun cr := (peer cr.1 (slot cr.2), back cr.2)
  left_inv cr := Prod.ext (peer_back _ _) (back_back _)
  right_inv cr := Prod.ext (peer_back _ _) (back_back _)

theorem bigSep_flip {M : Type} [URA M] (Φ : Dev nD → Fin 31 → sProp M) :
    (bigSep Finset.univ fun c => bigSep Finset.univ fun r => Φ c r)
      = bigSep Finset.univ fun c => bigSep Finset.univ fun r => Φ (peer c (slot r)) (back r) := by
  rw [← bigSep_univ_prod (fun cr : Dev nD × Fin 31 => Φ cr.1 cr.2), bigSep_univ_equiv flip, bigSep_univ_prod]; rfl

theorem sum_flip {N : Type} [AddCommMonoid N] (f : Dev nD → N) :
    (∑ c : Dev nD, ∑ r : Fin 31, f (peer c (slot r))) = ∑ c : Dev nD, ∑ _r : Fin 31, f c := by
  rw [← Fintype.sum_prod_type' (f := fun (c : Dev nD) (_ : Fin 31) => f c),
    ← Fintype.sum_prod_type' (f := fun (c : Dev nD) (r : Fin 31) => f (peer c (slot r)))]
  exact Equiv.sum_comp flip fun cr : Dev nD × Fin 31 => f cr.1

/-! ## The tokens as minted -/

/-- Of each semaphore kind the duties: the barrier's, the three landings' and the three departures', one per line. -/
def duty (j : Fin 7) (d : Fin 31) : Option Kd × Fin 31 := match j with
  | 0 => (none, d)
  | 1 => (some (0, none), d) | 2 => (some (1, none), d) | 3 => (some (2, none), d)
  | 4 => (some (0, some d), 0) | 5 => (some (1, some d), 0) | 6 => (some (2, some d), 0)

theorem duty_inj : ∀ j d j' d', duty j d = duty j' d' → j = j' ∧ d = d' := by decide +kernel

def tokOf (x : Dev nD × Fin 7 × Fin 31) : GSem nD τ sig × ℕ × Fin 31 :=
  (kcell (x.1, (duty x.2.1 x.2.2).1), 0, (duty x.2.1 x.2.2).2)

theorem tokOf_injective : Function.Injective tokOf := by
  rintro ⟨c, j, d⟩ ⟨c', j', d'⟩ h
  have h1 := kcell_injective (congrArg Prod.fst h)
  have h2 : (duty j d).2 = (duty j' d').2 := congrArg (fun x : GSem nD τ sig × ℕ × Fin 31 => x.2.2) h
  obtain ⟨rfl, rfl⟩ := duty_inj j d j' d' (Prod.ext (congrArg Prod.snd h1) h2)
  obtain rfl : c = c' := congrArg Prod.fst h1
  rfl

def lineCells : Finset (GSem nD τ sig) := Finset.univ.map ⟨kcell, kcell_injective⟩
def lineToks : Finset (GSem nD τ sig × ℕ × Fin 31) := Finset.univ.map ⟨tokOf, tokOf_injective⟩

def u₀ : UU :=
  (initOf (Pipeline.cells cfgs cellOf_inj) (Pipeline.launchToks cfgs cellOf_inj), initOf lineCells lineToks)

/-- The tokens of device `c`'s own semaphores. -/
def toks (c : Dev nD) : sProp 𝕄 :=
  bigSep Finset.univ fun j : Fin 7 => bigSep Finset.univ fun d : Fin 31 => tok c (duty j d).1 (duty j d).2

theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Every token reaches the device that pays with it. -/
theorem toks_dealt : (bigSep Finset.univ fun c : Dev nD => (toks c : sProp 𝕄)) ⊢ bigSep Finset.univ fun c : Dev nD => payToks c := by
  unfold toks payToks copyToks
  simp only [bigSep_seven, bigSep_sep']
  rw [bigSep_flip (fun c d => tok c (duty 0 d).1 (duty 0 d).2), bigSep_flip (fun c d => tok c (duty 1 d).1 (duty 1 d).2),
    bigSep_flip (fun c d => tok c (duty 2 d).1 (duty 2 d).2), bigSep_flip (fun c d => tok c (duty 3 d).1 (duty 3 d).2)]
  iintro ⟨HB, H0, H1, H2, L0, L1, L2⟩
  isplitl [HB]; · iexact HB
  isplitl [L0 H0]
  · isplitl [L0]; · iexact L0
    iexact H0
  isplitl [L1 H1]
  · isplitl [L1]; · iexact L1
    iexact H1
  isplitl [L2]; · iexact L2
  iexact H2

/-! ## From the launch to the records -/

section Ghost

variable (X : Dev nD → Vec F S1024x256 .bf16) (I : Dev nD → Vec F S1024x1 .i32) (W : Dev nD → Vec F S4x256x512 .bf16)

/-- What the launch deals device `c`. -/
def G (c : Dev nD) : sProp 𝕄 :=
  iprop((bigSep Finset.univ fun k : Option Kd => roundState ER (rd X I W) (kcell (c, k)) 0)
    ∗ (bigSep Finset.univ fun k : Option Kd => iprop(atPos ER (kcell (c, k)) 0 ∅ 0 ∗ reached ER (kcell (c, k)) 0)) ∗ toks c)

/-- What a device takes from it into its run. -/
def linear (c : Dev nD) : sProp 𝕄 :=
  iprop((bigSep Finset.univ fun k => atPos ER (kcell (c, k)) 0 ∅ 0) ∗ payToks c)

def G' (c : Dev nD) : sProp 𝕄 := iprop(∃ K, records X I W K ∗ linear c)

theorem fund_lines : BI.own (ER (initOf lineCells lineToks)) ⊢ (|==> bigSep Finset.univ (G X I W) : sProp 𝕄) := by
  have hX (Φ : GSem nD τ sig → sProp 𝕄) : bigSep lineCells Φ
      = bigSep Finset.univ fun c : Dev nD => bigSep Finset.univ fun k : Option Kd => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks toks; rw [bigSep_map, bigSep_univ_prod]
    exact bigSep_congr fun c _ => by rw [bigSep_univ_prod]; rfl
  iintro HX
  imod (Rounds.fund ER (rd X I W) lineCells lineToks) $$ HX with ⟨Hst, Hr, Hat, Htok⟩
  imodintro
  ihave Hst' := (Entails.of_eq (hX fun g => roundState ER (rd X I W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores of a device are the runtime's barrier and the program's own. -/
theorem sems0_eq (c : Dev nD) : (bigSep Finset.univ fun k : Option Kd => (semVal (kcell (c, k)) 0 : sProp 𝕄))
    = iprop(unscopedSems0 c ∗ Pipeline.ownSems0 (Ix := Unit) (Name := ℕ) (U := UU) (Lvl := ℕ) (Val := Elt F) (τ := τ) osem c) := by
  rw [unscopedSems0_eq, bigSep_option]; rfl

theorem core_alloc (c : Dev nD) :
    iprop(Pipeline.ownSems0 (Ix := Unit) (Name := ℕ) (U := UU) (Lvl := ℕ) (Val := Elt F) (τ := τ) osem c ∗ unscopedSems0 c ∗ G X I W c)
      ⊢ |={Set.univ}=> iprop((bigSep Finset.univ fun k => iprop(∃ κ : ℕ, cellInv ER (rd X I W) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Option Kd => semVal (kcell (c, k)) 0)
        ∗ bigSep Finset.univ fun k : Option Kd => roundState ER (rd X I W) (kcell (c, k)) 0)
      ⊢ (|={Set.univ}=> bigSep Finset.univ fun k => iprop(∃ κ : ℕ, cellInv ER (rd X I W) κ (kcell (c, k))) : sProp 𝕄) from by
        rw [← bigSep_sep']
        exact (bigSep_mono fun k _ => (Rounds.body_intro ER (rd X I W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd X I W) κ (kcell (c, k))))
          ∗ (bigSep Finset.univ fun k => iprop(atPos ER (kcell (c, k)) 0 ∅ 0 ∗ reached ER (kcell (c, k)) 0)) ∗ toks c) : sProp 𝕄)
      ⊢ bigSep Finset.univ (G' X I W) := by
  rw [bigSep_sep', bigSep_sep', ← bigSep_univ_prod (fun ck : Dev nD × Option Kd => iprop(∃ κ : ℕ, cellInv ER (rd X I W) κ (kcell ck))),
    bigSep_congr (s := Finset.univ) (fun (c : Dev nD) _ => bigSep_sep' Finset.univ
      (fun k : Option Kd => (atPos ER (kcell (c, k)) 0 ∅ 0 : sProp 𝕄)) (fun k => reached ER (kcell (c, k)) 0)),
    bigSep_sep', ← bigSep_univ_prod (fun ck : Dev nD × Option Kd => (reached ER (kcell ck) 0 : sProp 𝕄))]
  iintro ⟨HI, ⟨Hat, #HR⟩, Htok⟩
  ihave HK := (BI.bigSep_exists_pi Finset.univ (fun (ck : Dev nD × Option Kd) (κ : ℕ) => (cellInv ER (rd X I W) κ (kcell ck) : sProp 𝕄))) $$ HI
  icases HK with ⟨%K, #HI⟩
  ihave Htk := (toks_dealt (F := F)) $$ Htok
  iapply (bigSep_with (R := records X I W K) (Φ := fun c => linear c) fun c _ => (show iprop(records X I W K ∗ linear c) ⊢ G' X I W c by
    unfold G'; iintro H; iexists K; iexact H))
  isplitr
  · unfold records; isplitl; · iexact HI
    iexact HR
  · unfold linear
    iapply (Entails.of_eq (bigSep_sep' Finset.univ
      (fun c : Dev nD => bigSep Finset.univ fun k : Option Kd => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G X I W c) : sProp 𝕄)
    ⊢ |={Set.univ}=> bigSep Finset.univ (G' X I W) :=
  ((bigSep_mono fun c _ => core_alloc X I W c).trans (bigSep_fupd _ _)).trans (BI.fupd_mono (regroup X I W))

end Ghost

/-! ## The launch credit -/

theorem kcell_iff {c c' : Dev nD} {k k' : Option Kd} : Iff (kcell (c, k) = kcell (c', k')) (c = c' ∧ k = k') :=
  ⟨fun h => Prod.ext_iff.mp (kcell_injective h), fun ⟨h, h'⟩ => by rw [h, h']⟩

/-- Every device owing `a` on each line to its peer's semaphore of kind `k`, the cell `(c, k')` is owed `31 a` or nothing. -/
theorem sum_owed (k k' : Option Kd) (c : Dev nD) (a : ℕ) :
    (∑ d : Dev nD, (∑ r ∈ Finset.univ.filter (fun r : Fin 31 => 0 ≤ r.val),
        (tallyAt (kcell (peer d (slot r), k)) () a : CellTallies nD τ sig Unit)) (kcell (c, k')) ())
      = if k' = k then 31 * a else 0 := by
  rw [from_0]
  have h1 : ∀ d : Dev nD, (∑ r : Fin 31, (tallyAt (kcell (peer d (slot r), k)) () a : CellTallies nD τ sig Unit)) (kcell (c, k')) ()
      = ∑ r : Fin 31, if c = peer d (slot r) ∧ k' = k then a else 0 := fun d => by
    rw [Finset.sum_apply, Finsupp.finsetSum_apply]
    refine Finset.sum_congr rfl fun r _ => ?_
    rw [tallyAt_apply]
    exact if_congr ((and_iff_left rfl).trans kcell_iff) rfl rfl
  rw [Finset.sum_congr rfl fun d _ => h1 d, sum_flip (fun d => if c = d ∧ k' = k then a else 0)]
  by_cases h : k' = k
  · simp [h, Finset.sum_ite_eq]
  · simp [h]

theorem sum_bar (k' : Option Kd) (c : Dev nD) : (∑ d : Dev nD, oBar d 0 (kcell (c, k')) ()) = if k' = none then 31 * 1 else 0 :=
  sum_owed none k' c 1
theorem sum_land (t : Fin 3) (k' : Option Kd) (c : Dev nD) :
    (∑ d : Dev nD, oLand t d 0 (kcell (c, k')) ()) = if k' = some (t, none) then 31 * amt t else 0 :=
  sum_owed (some (t, none)) k' c (amt t)

theorem launch_at (k' : Option Kd) (c : Dev nD) : launchCredit (Pipeline.owing O₀) 0 (kcell (c, k')) ()
    = (if k' = some (2, none) then 31 * amt 2 else 0) + (if k' = some (1, none) then 31 * amt 1 else 0)
      + (if k' = some (0, none) then 31 * amt 0 else 0) + (if k' = none then 31 * 1 else 0) := by
  rw [Pipeline.launchCredit_owing, ← sum_land, ← sum_land, ← sum_land, ← sum_bar, ← Finset.sum_add_distrib, ← Finset.sum_add_distrib,
    ← Finset.sum_add_distrib]
  exact Finset.sum_congr rfl fun d _ => rfl

theorem tallyOn_credit (g : GSem nD τ sig) (n : ℕ) (h : launchCredit (Pipeline.owing O₀) 0 g () = n) :
    tallyOn g (launchCredit (Pipeline.owing O₀) 0 g) = (tallyAt g () n : CellTallies nD τ sig Unit) := by
  unfold tallyAt; refine congrArg _ (Finsupp.ext fun u => ?_); cases u
  rw [h, Finsupp.single_eq_same]

set_option maxRecDepth 20000 in
theorem launch_bar (c : Dev nD) :
    tallyOn (barCell c) (launchCredit (Pipeline.owing O₀) 0 (barCell c)) = (tallyAt (barCell c) () 31 : CellTallies nD τ sig Unit) :=
  tallyOn_credit _ _ ((launch_at none c).trans (by
    rw [if_neg (by decide), if_neg (by decide), if_neg (by decide), if_pos rfl]))

theorem kind_iff (t t' : Fin 3) : (some (t, none) : Option Kd) = some (t', none) ↔ t = t' := by
  simp

set_option maxRecDepth 20000 in
theorem launch_land (t : Fin 3) (c : Dev nD) :
    tallyOn (landCell t c) (launchCredit (Pipeline.owing O₀) 0 (landCell t c)) = (tallyAt (landCell t c) () (31 * amt t) : CellTallies nD τ sig Unit) :=
  tallyOn_credit _ _ ((launch_at (some (t, none)) c).trans (by
    simp only [kind_iff, if_neg (show ¬ (some (t, none) : Option Kd) = none from nofun)]
    generalize amt = a
    fin_cases t <;> simp))

/-- The credit a device starts with on its semaphore of kind `k`. -/
def credOf (c : Dev nD) (k : Option Kd) : sProp 𝕄 :=
  cred (tallyOn (kcell (c, k)) (launchCredit (Pipeline.owing O₀) 0 (kcell (c, k))))

theorem creds (c : Dev nD) : (Pipeline.launchCred O₀ c : sProp 𝕄) ⊢ waitCreds c := by
  have h1 : (Pipeline.launchCred O₀ c : sProp 𝕄) ⊢ bigSep Finset.univ (credOf c) := by
    unfold Pipeline.launchCred
    refine (bigSep_subset (Finset.subset_univ (Finset.univ.map ⟨csem, csem_injective⟩))).trans ?_
    rw [bigSep_map]; exact BI.Entails.refl _
  refine h1.trans ?_
  rw [bigSep_kinds]
  show iprop(cred (tallyOn (barCell c) (launchCredit (Pipeline.owing O₀) 0 (barCell c)))
    ∗ (cred (tallyOn (landCell 0 c) (launchCredit (Pipeline.owing O₀) 0 (landCell 0 c))) ∗ bigSep Finset.univ fun r => credOf c (some (0, some r)))
    ∗ (cred (tallyOn (landCell 1 c) (launchCredit (Pipeline.owing O₀) 0 (landCell 1 c))) ∗ bigSep Finset.univ fun r => credOf c (some (1, some r)))
    ∗ (cred (tallyOn (landCell 2 c) (launchCredit (Pipeline.owing O₀) 0 (landCell 2 c))) ∗ bigSep Finset.univ fun r => credOf c (some (2, some r)))) ⊢ waitCreds c
  unfold waitCreds
  rw [launch_bar, launch_land, launch_land, launch_land]
  iintro ⟨HB, ⟨H0, -⟩, ⟨H1, -⟩, ⟨H2, -⟩⟩
  isplitl [HB]; · iexact HB
  isplitl [H0]; · iexact H0
  isplitl [H1]; · iexact H1
  iexact H2

end Cert.Moe

end
-- ==== Proof.Launch.lean ====
/-
# The run of all devices

Every device starts from its share of the launch, runs the program and stops; afterwards its result array holds the
computed contents, its arguments are what they were, and every semaphore counts zero.
-/
module

public import proofs.«01_k».proof.Proof.Deal
public import proofs.«01_k».proof.Proof.Gen.KernelIdeal.Frame
public import Idealize.ShloMosaic.Lib.Pipeline.CollectiveSegs
public import Idealize.ShloMosaic.Lib.Pipeline.Quiescent

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The staged arguments -/

def xIn (c : Dev nD) : Vec F S1024x256 .bf16 := (win0_0.blk (0 : Fin 1)).view.read (Elt F) (m ((c : Thread nD τ).loc main_arg0))
def iIn (c : Dev nD) : Vec F S1024x1 .i32 := (win0_1.blk (0 : Fin 1)).view.read (Elt F) (m ((c : Thread nD τ).loc main_arg2))
def wIn (c : Dev nD) : Vec F S4x256x512 .bf16 := (win0_2.blk (0 : Fin 1)).view.read (Elt F) (m ((c : Thread nD τ).loc main_arg3))

/-- What device `c` computes from all devices' arguments. -/
def result (c : Dev nD) : Vec F S1024x512 .f32 := outB (xIn m) (iIn m) (wIn m) c

/-! ## Before and after the one point -/

def start (c : Dev nD) : sProp 𝕄 := iprop(G' (xIn m) (iIn m) (wIn m) c ∗ waitCreds c ∗ levAts L lv)
def Φ₀ (c : Dev nD) : sProp 𝕄 := iprop(start m c ∗ scratch c)
def Φ₁ (c : Dev nD) : sProp 𝕄 := iprop(scratch c ∗ bigSep Finset.univ fun k => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => iIn m c
    | ⟨2, _⟩ => wIn m c
    | ⟨3, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 4) ∗ Φ (1 : Fin 4) ∗ Φ (2 : Fin 4) ∗ Φ (3 : Fin 4)) := bigSep_W0 Φ

theorem fin_N (t : Fin cfg0.N) : t = t0_0 := fin_N0 t
theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

abbrev stg (c : Dev nD) (b : Ref sig .tc) (f : b.ty.Contents (Elt F)) : sProp 𝕄 :=
  iprop(∃ g : Buf (Elt F) ((c : Thread nD τ).loc b), ⌜g = f⌝ ∗ ((c : Thread nD τ).loc b ↦{fullShare} g))

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄) = stg c b f := by
  unfold owns; simp only [Memref.view_whole, View.read_whole, View.set_whole]

theorem before_0 (c : Dev nD) (d) : (dats m 0 c).before (0 : Fin 4) t0_0 d = xIn m c := by
  unfold Dat.before; rw [if_pos (fetch_0 t0_0)]; rfl
theorem before_1 (c : Dev nD) (d) : (dats m 0 c).before (1 : Fin 4) t0_0 d = iIn m c := by
  unfold Dat.before; rw [if_pos (fetch_1 t0_0)]; rfl
theorem before_2 (c : Dev nD) (d) : (dats m 0 c).before (2 : Fin 4) t0_0 d = wIn m c := by
  unfold Dat.before; rw [if_pos (fetch_2 t0_0)]; rfl

def pointPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def pointPost (c : Dev nD) : sProp 𝕄 :=
  iprop(Φ₁ c ∗ (dats m 0 c).owesAt () t0_0.succ ∗ stg c cc0_stg0_0 (xIn m c) ∗ stg c cc0_stg1_0 (iIn m c)
    ∗ stg c cc0_stg2_0 (wIn m c) ∗ stg c cc0_stg3_0 (result m c))

theorem point (c : Dev nD) : pointPre m c ⊢ run c prog fun _ => pointPost m c := by
  unfold pointPre Φ₀ start G' linear
  simp only [before_0, before_1, before_2]
  iintro ⟨⟨⟨⟨%K, HR, Hat, Htok⟩, Hcr, Hlev⟩, Hscr⟩, Ho, ⟨%d0, %g0, %h0, H0⟩, ⟨%d1, %g1, %h1, H1⟩, ⟨%d2, %g2, %h2, H2⟩, ⟨%d3, %g3, %h3, H3⟩⟩
  subst h0 h1 h2
  iapply (sound_prog (xIn m) (iIn m) (wIn m) K c fun _ => pointPost m c)
  isplitr []
  · unfold progPre
    isplitl [HR Hat Htok]
    · isplitl [HR]; · iexact HR
      isplitl [Hat]; · iexact Hat
      iexact Htok
    isplitl [Hcr]; · iexact Hcr
    isplitl [Hlev]; · iexact Hlev
    isplitl [Hscr]; · iexact Hscr
    isplitl [Ho]
    · unfold Dat.owesAt Ow
      icases Ho with ⟨%W, -, HO⟩
      iexists W; iexact HO
    isplitl [H0 H1 H2]
    · unfold inputs
      isplitl [H0]; · iexact H0
      isplitl [H1]; · iexact H1
      iexact H2
    iexists g3; iexact H3
  · unfold progPost pointPost Φ₁ inputs Ow Dat.owesAt
    iintro ⟨HΦ, ⟨%W, HO⟩, ⟨H0, H1, H2⟩, H3⟩
    isplitl [HΦ]; · iexact HΦ
    isplitl [HO]
    · iexists W
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    iexists _; isplitr; · (ipureintro; rfl)
    iexact H3

set_option maxRecDepth 40000 in
theorem body_obligation (c : Dev nD) : BodyObligation (dats m 0 c) (defs₀ (F := F)) 𝒱₀ () Set.univ := fun t => by
  rw [fin_N t]
  rw [bigSep_W, bigSep_W]
  simp only [owns_whole_eq]
  show pointPre m c ⊢ run c (cc0_body (F := F) xM (Memref.isWhole_whole _) iM (Memref.isWhole_whole _) wM (Memref.isWhole_whole _)
    oM (Memref.isWhole_whole _) sM (Memref.isWhole_whole _) rM (Memref.isWhole_whole _) yM (Memref.isWhole_whole _)
    zM (Memref.isWhole_whole _) hM (Memref.isWhole_whole _) cc0_scratch5 cc0_scratch6 cc0_scratch7 cc0_scratch8
    cc0_scratch9 cc0_scratch10) fun _ => pointPost m c
  rw [body_eq]
  exact point m c

/-! ## The launch's side conditions -/

theorem share_eq (c : Dev nD) (w : Fin cfg0.W) : (dats m 0 c).share w = fullShare := by unfold Dat.share; split <;> rfl

/-- The one argument no window stages keeps its contents. -/
def kept (c : Dev nD) : sProp 𝕄 := (c : Thread nD τ).loc main_arg1 ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (iIn m) (wIn m) c)
      ⊢ |={Set.univ}=> iprop(start m c ∗ kept m c) := by
  rw [Pipeline.unscopedRestP_none, unscopedRest0_eq]
  iintro ⟨Hk, Hlev, Hcr, -, HG⟩
  ihave Hc := (creds (F := F) c) $$ Hcr
  imodintro
  unfold start kept
  isplitr [Hk]
  · isplitl [HG]; · iexact HG
    isplitl [Hc]; · iexact Hc
    iexact Hlev
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

theorem kept_read (c : Dev nD) (s' : Phys nD τ sig (Elt F)) :
    iprop(kept m c ∗ SI s') ⊢ (iprop(⌜s'.mem.mem ((c : Thread nD τ).loc main_arg1) = m ((c : Thread nD τ).loc main_arg1)⌝ ∗ SI s') : sProp 𝕄) := by
  unfold kept
  iintro ⟨Hk, HSI⟩
  icombine HSI Hk gives %h
  isplitr
  · ipureintro; exact Buf.eq_of_forall_mem_univ h
  iexact HSI

/-! ## The run -/

def final (c : Dev nD) (w : Fin cfg0.W) : Buf (Elt F) ((cfg0.win w).arr.view.loc (c : Thread nD τ)) := (dats m 0 c).arrAt w cfg0.N

def Ends (r : PUnit × MemSt nD τ sig (Elt F)) : Prop :=
  (∀ c : Dev nD, (∀ w : Fin cfg0.W, r.2.mem ((cfg0.win w).arr.view.loc (c : Thread nD τ)) = final m c w)
    ∧ r.2.mem ((c : Thread nD τ).loc main_arg1) = m ((c : Thread nD τ).loc main_arg1)) ∧ r.2.sem = fun _ => 0

set_option maxRecDepth 40000 in
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xIn m) (iIn m) (wIn m)) (G' := G' (xIn m) (iIn m) (wIn m)) (u₀ := u₀)
    (hu₀ := by
      unfold u₀
      iintro Hu
      ihave H := (ownU_pair _ _) $$ Hu
      icases H with ⟨HP, HX⟩
      imod (fund_lines (xIn m) (iIn m) (wIn m)) $$ HX with HG
      imodintro
      isplitl [HP] <;> iassumption)
    (hglob := glob (xIn m) (iIn m) (wIn m))
    (hA := fun _ _ => rfl) (hpf := fun _ k => k.elim0)
    (X := start m) (Y := fun c => unscopedSems0 c) (Z := kept m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hk, HSI⟩
      ihave H := (kept_read m c s') $$ [Hk HSI]
      · isplitl [Hk] <;> iassumption
      icases H with ⟨%hk, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hk⟩
      iexact HSI)
    (hQ := fun _ h hs => ⟨fun c => ⟨fun w => (h c).1 w, (h c).2.2.2⟩, sem_eq_zero hs fun c => (h c).2.2.1⟩)

theorem final_x (c : Dev nD) : final m c (0 : Fin 4) = m ((c : Thread nD τ).loc main_arg0) := (dats (F := F) m 0 c).arrAt_in (0 : Fin 4) rfl _
theorem final_i (c : Dev nD) : final m c (1 : Fin 4) = m ((c : Thread nD τ).loc main_arg2) := (dats (F := F) m 0 c).arrAt_in (1 : Fin 4) rfl _
theorem final_w (c : Dev nD) : final m c (2 : Fin 4) = m ((c : Thread nD τ).loc main_arg3) := (dats (F := F) m 0 c).arrAt_in (2 : Fin 4) rfl _

theorem final_o (c : Dev nD) : (win0_3.blk (0 : Fin 1)).view.read (Elt F) (final m c (3 : Fin 4)) = result m c := by
  unfold final
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

/-- The arguments after the run are those before it. -/
theorem args_kept (r : PUnit × MemSt nD τ sig (Elt F)) (h : Ends m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h.1 c).1 (0 : Fin 4)).trans (final_x m c), (h.1 c).2, ((h.1 c).1 (1 : Fin 4)).trans (final_i m c),
    ((h.1 c).1 (2 : Fin 4)).trans (final_w m c)⟩

end Cert.Moe

end
-- ==== Proof.Frames.lean ====
/-
# The three programs end with their arguments and semaphores as they were
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic Idealize.SL.Sem

theorem frame_ideal : Cert.quiescent_KernelIdeal := by
  intro m ρ _
  exact (θ_run _ _ _).mono (fun r h => ⟨args_kept m r h, h.2⟩) (run_main m ρ)

/-- What the frame of the kernel says, of the program proved here at the machine's own floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frame_bits : FrameBits := by
  intro m ρ _
  exact (θ_run _ _ _).mono (fun r h => ⟨args_kept m r h, h.2⟩) (run_main m ρ)

theorem frame_eq : FrameBits = Cert.quiescent_Kernel := by
  sl_kernel_rfl

theorem frame_kernel : Cert.quiescent_Kernel := frame_eq ▸ frame_bits

theorem frame_reference : Cert.quiescent_ReferenceIdeal := by
  intro m ρ _
  exact (θ_run _ _ _).mono (fun r h => ⟨fun c => (h c).2, sem_eq_zero_of_no_sems (by decide) r.2⟩) (Cert.ReferenceIdeal.Value.run m ρ)

theorem preserves : Cert.preserves_Kernel_KernelIdeal := trivial

end Cert.Moe

end
-- ==== Proof.Words.lean ====
/-
# The kernel's counting, read at an index

`num v k` is the expert of the token at position `k` of a column of routes `v`, and `cnt v e n` the number of tokens
before position `n` that are routed to expert `e`. Here each word the kernel computes for its tokens is shown to hold
the natural number it stands for: the rank of a token among those of its expert (`rank_at`), the histogram (`hist_at`),
the expert's place on its owner (`sub_at`), the owner's place on the circle (`rel_word`) and the row the token takes in
the send buffer (`place_at`). The one-hot matrices read as one where the position is the token's and zero elsewhere.
-/
module

public import proofs.«01_k».proof.Proof.Contents
public import Idealize.ShloMosaic.Lib.Pointwise
public import Idealize.ShloMosaic.Lib.IndicatorCount
public import Idealize.ShloMosaic.Lib.WordCmp
public import Idealize.ShloMosaic.Lib.WordArith
public import Idealize.ShloMosaic.Lib.Routing.Count
public import Idealize.ShloMosaic.Lib.Routing.FromKeys

@[expose] public section

noncomputable section

namespace Cert.Moe

open Cert.KernelIdeal Cert.KernelIdeal.Gen
open Idealize.ShloMosaic

/-! ## Naturals -/

/-- The expert at position `k` of a column of routes. -/
def num {N : Nat} (v : IVec ⟨2, ![N, 1]⟩ 32) (k : Nat) : Nat := if h : k < N then (v (ix2 ⟨k, h⟩ 0)).toNat else 0

theorem num_fin {N : Nat} (v : IVec ⟨2, ![N, 1]⟩ 32) (t : Fin N) : num v t.val = (v (ix2 t 0)).toNat := by
  rw [num, dif_pos t.isLt]

theorem num_word {N : Nat} (v : IVec ⟨2, ![N, 1]⟩ 32) (t : Fin N) : v (ix2 t 0) = BitVec.ofNat 32 (num v t.val) := by
  rw [num_fin, BitVec.ofNat_toNat, BitVec.setWidth_eq]

/-- The number of tokens before position `n` that are routed to expert `e`. -/
def cnt {N : Nat} (v : IVec ⟨2, ![N, 1]⟩ 32) (e n : Nat) : Nat := Nat.count (fun k => num v k = e) n

theorem cnt_le {N : Nat} (v : IVec ⟨2, ![N, 1]⟩ 32) (e n : Nat) : cnt v e n ≤ n := Nat.count_le _

theorem cnt_mono {N : Nat} (v : IVec ⟨2, ![N, 1]⟩ 32) (e : Nat) {m n : Nat} (h : m ≤ n) : cnt v e m ≤ cnt v e n :=
  Nat.count_monotone _ h

/-- A token is counted after its own position. -/
theorem cnt_lt {N : Nat} (v : IVec ⟨2, ![N, 1]⟩ 32) {m n : Nat} (h : m < n) : cnt v (num v m) m < cnt v (num v m) n :=
  lt_of_lt_of_le (by simp [cnt, Nat.count_succ]) (cnt_mono v _ (Nat.succ_le_of_lt h))

/-- Tokens of one expert have different ranks. -/
theorem rank_inj {N : Nat} (v : IVec ⟨2, ![N, 1]⟩ 32) {m n : Nat} (he : num v m = num v n)
    (hr : cnt v (num v m) m = cnt v (num v n) n) : m = n := by
  rcases lt_trichotomy m n with h | h | h
  · have := cnt_lt v h; rw [← he] at hr; omega
  · exact h
  · have := cnt_lt v h; rw [he] at hr; omega

/-- The row of the send buffer of device `c` for the token of rank `r` among those of expert `e`. -/
def place (c e r : Nat) : Nat := (e / 4 + 63 - c) % 32 * 160 + e % 4 * 40 + r

theorem place_lt {c e r : Nat} (hr : r < 40) : place c e r < 5120 := by unfold place; omega

theorem place_inj {c e r e' r' : Nat} (hc : c < 32) (he : e < 128) (he' : e' < 128) (hr : r < 40) (hr' : r' < 40)
    (h : place c e r = place c e' r') : e = e' ∧ r = r' := by unfold place at h; omega

/-! ## Bits and words -/

theorem ofBool_one {p : Prop} [Decidable p] : BitVec.ofBool (decide p) = 1#1 ↔ p := by
  rw [WordArith.ofBool_eq_one_iff, decide_eq_true_iff]

/-- A comparison's bit as an extended real. -/
theorem bit_real (b : BitVec 1) : (((b.setWidth 32).toInt : ℝ) : EReal) = if b = 1#1 then 1 else 0 := by
  have h : b = 0#1 ∨ b = 1#1 := by revert b; decide
  rcases h with rfl | rfl <;> simp

theorem meW_eq (c : Dev nD) : meW c = BitVec.ofNat 32 c.val := by revert c; decide +kernel

theorem eq_word {a b : Nat} (ha : a < 2 ^ 32) (hb : b < 2 ^ 32) :
    IntOp.cmpi .eq (BitVec.ofNat 32 a) (BitVec.ofNat 32 b) = 1#1 ↔ a = b := WordCmp.cmpi_eq_ofNat_eq_one_iff ha hb

/-- Words of a column agree where the experts do. -/
theorem eq_num {N : Nat} (v : IVec ⟨2, ![N, 1]⟩ 32) (s t : Fin N) :
    IntOp.cmpi .eq (v (ix2 s 0)) (v (ix2 t 0)) = 1#1 ↔ num v s.val = num v t.val := by
  rw [WordCmp.cmpi_eq_eq_toNat, ofBool_one, num_fin, num_fin]

theorem eq_num_ofNat {N : Nat} (v : IVec ⟨2, ![N, 1]⟩ 32) (s : Fin N) {e : Nat} (he : e < 2 ^ 32) :
    IntOp.cmpi .eq (v (ix2 s 0)) (BitVec.ofNat 32 e) = 1#1 ↔ num v s.val = e := by
  rw [WordCmp.cmpi_eq_eq_toNat, ofBool_one, num_fin, BitVec.toNat_ofNat, Nat.mod_eq_of_lt he]

/-- A sum of ones over the positions with a property is the number of them. -/
theorem sum_bits (N : Nat) (Q : Nat → Prop) [DecidablePred Q] :
    (∑ t : Fin N, if Q t.val then (1 : EReal) else 0) = ((Nat.count Q N : ℝ) : EReal) := by
  rw [Finset.sum_ite, Finset.sum_const_zero, add_zero, Finset.sum_const, Routing.card_filter_fin N Q, nsmul_one]
  rfl

/-- The word of a small natural, converted from a float, is the word of that natural. -/
theorem fptosi_nat {n : Nat} (h : n < 2 ^ 31) : Ideal.fptosi 32 ((n : ℝ) : EReal) = BitVec.ofNat 32 n := by
  rw [Ideal.fptosi, Ideal.toIntClamped_coe, if_pos (Nat.cast_nonneg n), Int.floor_natCast, ← BitVec.ofInt_natCast]
  congr 1
  have : (n : ℤ) < 2 ^ 31 := by exact_mod_cast h
  norm_num at this ⊢
  omega

/-- The extended real of the word of a small natural. -/
theorem real_word {n : Nat} (h : n < 2 ^ 31) : (((BitVec.ofNat 32 n).toInt : ℝ) : EReal) = ((n : ℝ) : EReal) := by
  rw [WordArith.toInt_ofNat_small n h]
  norm_cast

/-! ## The words of the tokens -/

variable (v : IVec S1024x1 32)

theorem pay1_eq (x : FVec Ideal S1024x256 .bf16) : k0_pay1 x = x := by
  funext i; pointwise [k0_pay1]

theorem pay2_eq (x : Vec Ideal S1024x1 .i32) : k0_pay2 x = x := by
  funext i; pointwise [k0_pay2]

/-- The one-hot row of a token. -/
theorem hot_at (v : Vec Ideal S1024x1 .i32) (t : Fin 1024) (e : Fin 128) :
    k0_pay3 (F := Ideal) v (ix2 t e) = if num (N := 1024) v t.val = e.val then 1 else 0 := by
  pointwise [k0_pay3, k0_pay2]
  refine (bit_real _).trans ?_
  exact if_congr (eq_num_ofNat (N := 1024) v t (by omega)) rfl rfl

theorem hist_at (v : Vec Ideal S1024x1 .i32) (e : Fin 128) :
    k0_pay4 (F := Ideal) v (ix2 0 e) = BitVec.ofNat 32 (cnt (N := 1024) v e.val 1024) := by
  pointwise [k0_pay4]
  rw [Finset.sum_congr rfl fun t _ => hot_at v t e, sum_bits 1024 (fun k => num (N := 1024) v k = e.val)]
  exact fptosi_nat (lt_of_le_of_lt (Nat.count_le _) (by norm_num))

theorem rank_at (t : Fin 1024) : k0_pay5 v (ix2 t 0) = BitVec.ofNat 32 (cnt v (num v t.val) t.val) := by
  pointwise [k0_pay5]
  rw [IndicatorCount.fold_addi_setWidth_eq_card]
  congr 1
  rw [cnt, ← Routing.count_and_lt _ t.val 1024 t.isLt.le, ← Routing.card_filter_fin]
  refine congrArg Finset.card (Finset.filter_congr fun s _ => ?_)
  have hs := s.isLt
  have ht := t.isLt
  rw [WordCmp.cmpi_eq_eq_toNat, WordCmp.cmpi_slt_ofNat (by omega) (by omega), WordArith.andi_ofBool, WordArith.ofBool_eq_one_iff,
    Bool.and_eq_true, decide_eq_true_iff, decide_eq_true_iff, num_fin, num_fin]
  exact ⟨fun h => ⟨h.2, h.1.symm⟩, fun h => ⟨h.2.symm, h.1⟩⟩

theorem rem_four : ∀ e : Fin 128, IntOp.remsi .vector (BitVec.ofNat 32 e.val) 4#32 = BitVec.ofNat 32 (e.val % 4) := by decide +kernel
theorem div_four : ∀ e : Fin 128, IntOp.divsi .vector (BitVec.ofNat 32 e.val) 4#32 = BitVec.ofNat 32 (e.val / 4) := by decide +kernel

/-- How far the owner of an expert is ahead of device `c`, on the circle. -/
theorem rel_word : ∀ (c o : Fin 32), IntOp.remsi .vector (IntOp.addi (IntOp.subi (IntOp.subi (BitVec.ofNat 32 o.val)
    (BitVec.ofNat 32 c.val)) 1#32) 64#32) 32#32 = BitVec.ofNat 32 ((o.val + 63 - c.val) % 32) := by decide +kernel

theorem sub_at (t : Fin 1024) (h : num v t.val < 128) : k0_pay6 v (ix2 t 0) = BitVec.ofNat 32 (num v t.val % 4) := by
  pointwise [k0_pay6]
  rw [num_word v t]
  exact rem_four ⟨_, h⟩

theorem own_at (w : BitVec 32) (t : Fin 1024) (h : num v t.val < 128) :
    k0_pay7 w v (ix2 t 0) = IntOp.subi (BitVec.ofNat 32 (num v t.val / 4)) w := by
  pointwise [k0_pay7]
  rw [num_word v t]
  exact congrArg (fun z => IntOp.subi z w) (div_four ⟨_, h⟩)

/-- The row a token takes in the send buffer of device `c`. -/
theorem place_at (c : Dev nD) (t : Fin 1024) (h : num v t.val < 128) (hr : cnt v (num v t.val) t.val < 40) :
    k0_pay8 (k0_pay5 v) (k0_pay6 v) (k0_pay7 (meW c) v) 1#32 (ix2 t 0)
      = BitVec.ofNat 32 (place c.val (num v t.val) (cnt v (num v t.val) t.val)) := by
  pointwise [k0_pay8]
  rw [rank_at, sub_at v t h, own_at v _ t h, meW_eq, WordCmp.cmpi_slt_ofNat (by omega) (by omega), decide_eq_true hr,
    rel_word c ⟨num v t.val / 4, by omega⟩]
  show BitVec.ofNat 32 _ * BitVec.ofNat 32 160 + BitVec.ofNat 32 _ * BitVec.ofNat 32 40 + BitVec.ofNat 32 _ = _
  rw [← BitVec.ofNat_mul, ← BitVec.ofNat_mul, ← BitVec.ofNat_add, ← BitVec.ofNat_add]
  rfl

end Cert.Moe
-- ==== Proof.Moved.lean ====
/-
# Where the tokens go, and what comes back

The dispatch product puts each token's row at its own place in the send buffer (`sent_at`), because no two tokens of a
device share a place. A slot of the buffer that comes back holds the product of what was sent in that slot with the
expert's matrix on the slot's device (`back_at`), and the combining product picks the token's place again. So the
kernel's result at a token is its row times its expert's matrix, or zero where the token is beyond capacity (`out_at`).
-/
module

public import proofs.«01_k».proof.Proof.Words

@[expose] public section

noncomputable section

namespace Cert.Moe

open Cert.KernelIdeal Cert.KernelIdeal.Gen
open Idealize.ShloMosaic

/-- A sum in which one position alone is weighted with one is the value there. -/
theorem sum_pick {ι : Type} [Fintype ι] [DecidableEq ι] (P : ι → Prop) [DecidablePred P] (f : ι → EReal) (i : ι) (hi : P i)
    (h : ∀ j, P j → j = i) : (∑ j, (if P j then (1 : EReal) else 0) * f j) = f i := by
  rw [Finset.sum_eq_single i (fun j _ hj => by rw [if_neg fun hp => hj (h j hp), zero_mul])
    (fun hn => absurd (Finset.mem_univ i) hn), if_pos hi, one_mul]

/-- A one-hot weight: whether a position is the one a word names. -/
theorem weight_eq {a b : Nat} (ha : a < 2 ^ 32) (hb : b < 2 ^ 32) :
    (FloatOps.sitofp (F := Ideal) FTy.f32 (BitVec.setWidth 32 (IntOp.cmpi .eq (BitVec.ofNat 32 a) (BitVec.ofNat 32 b))) : EReal)
      = if a = b then 1 else 0 := (bit_real _).trans (if_congr (eq_word ha hb) rfl rfl)

section Rows

variable (v : IVec S1024x1 32) (c : Dev nD)

/-- The words naming the tokens' places, on device `c`. -/
def placeW : IVec S1024x1 32 := k0_pay8 (k0_pay5 v) (k0_pay6 v) (k0_pay7 (meW c) v) 1#32

/-- The place of the token at position `t`. -/
def placeN (t : Nat) : Nat := place c.val (num v t) (cnt v (num v t) t)

variable (hI : ∀ t : Fin 1024, num v t.val < 128) (hr : ∀ t : Fin 1024, cnt v (num v t.val) t.val < 40)

include hI hr

theorem placeW_at (t : Fin 1024) : placeW v c (ix2 t 0) = BitVec.ofNat 32 (placeN v c t.val) := place_at v c t (hI t) (hr t)

theorem placeN_lt (t : Fin 1024) : placeN v c t.val < 5120 := place_lt (hr t)

theorem placeN_inj (s t : Fin 1024) (h : placeN v c s.val = placeN v c t.val) : s = t := by
  obtain ⟨he, hrk⟩ := place_inj c.isLt (hI s) (hI t) (hr s) (hr t) h
  exact Fin.ext (rank_inj v he hrk)

/-- The send buffer holds each token's row at the token's place. -/
theorem sent_at (x : FVec Ideal S1024x256 .bf16) (t : Fin 1024) (j : Fin 32) (s : Fin 4) (r : Fin 40) (k : Fin 256)
    (hp : placeN v c t.val = j.val * 160 + s.val * 40 + r.val) :
    k0_pay9 x (k0_pay5 v) (k0_pay6 v) (k0_pay7 (meW c) v) 1#32 (ix4 j s r k) = x (ix2 t k) := by
  pointwise [k0_pay9]
  have hw : ∀ u : Fin 1024, k0_pay8 (k0_pay5 v) (k0_pay6 v) (k0_pay7 (meW c) v) 1#32 (ix2 u 0) = BitVec.ofNat 32 (placeN v c u.val) :=
    fun u => placeW_at v c hI hr u
  refine (Finset.sum_congr rfl fun u _ => ?_).trans
    (sum_pick (fun u : Fin 1024 => j.val * 160 + s.val * 40 + r.val = placeN v c u.val) (fun u => x (ix2 u k)) t hp.symm
      fun u hu => placeN_inj v c hI hr u t (hu.symm.trans hp.symm))
  have hu := placeN_lt v c hI hr u
  rw [hw u, weight_eq (by omega) (by omega)]

/-- The combining product picks the row at the token's place. -/
theorem picked_at (m : IVec S1024x1 1) (z : Vec Ideal S32x4x40x512 .bf16) (t : Fin 1024) (j : Fin 32) (s : Fin 4) (r : Fin 40) (h : Fin 512)
    (hp : placeN v c t.val = j.val * 160 + s.val * 40 + r.val) :
    k0_pay22 (placeW v c) m z (ix2 t h) = Scalar.select (m (ix2 t 0)) (z (ix4 j s r h)) (0 : EReal) := by
  pointwise [k0_pay22]
  refine congrArg (fun y => Scalar.select (m (ix2 t 0)) y (0 : EReal)) ?_
  have ht := placeN_lt v c hI hr t
  refine (Finset.sum_congr rfl fun p _ => ?_).trans
    ((sum_pick (fun p : Fin 5120 => p.val = placeN v c t.val)
      (fun p => z (ix4 ⟨p.val / 160, by omega⟩ ⟨p.val / 40 % 4, by omega⟩ ⟨p.val % 40, by omega⟩ h)) ⟨_, ht⟩ rfl
      fun p hp => Fin.ext hp).trans ?_)
  · have hpl := p.isLt
    rw [placeW_at v c hI hr t, weight_eq (by omega) (by omega)]
  · refine congrArg z ?_
    have e1 : placeN v c t.val / 160 = j.val := by omega
    have e2 : placeN v c t.val / 40 % 4 = s.val := by omega
    have e3 : placeN v c t.val % 40 = r.val := by omega
    congr 1 <;> apply Fin.ext <;> assumption

end Rows

section Held

variable (X : Dev nD → Vec Ideal S1024x256 .bf16) (I : Dev nD → Vec Ideal S1024x1 .i32) (W : Dev nD → Vec Ideal S4x256x512 .bf16)
variable (c : Dev nD)

/-- An expert's rows are the landed rows times its matrix. -/
theorem expert_at (s : Fin 4) (j : Fin 32) (r : Fin 40) (h : Fin 512) :
    yE X I W c s (ix4 j 0 r h) = ∑ k : Fin 256, rC X I c s (ix4 j 0 r k) * W c (ix3 s k h) := by
  match s with
  | 0 => show k0_pay14 (W c) (rC X I c 0) (ix4 j 0 r h) = _; pointwise [k0_pay14, k0_pay13]
  | 1 => show k0_pay17 (k0_pay15 (rC X I c 1)) (k0_pay16 (W c)) (ix4 j 0 r h) = _
         pointwise [k0_pay17, k0_pay15, k0_pay16, k0_pay13]
  | 2 => show k0_pay18 (k0_pay13 (W c)) (rC X I c 2) (ix4 j 0 r h) = _; pointwise [k0_pay18, k0_pay13]
  | 3 => show k0_pay19 (k0_pay13 (W c)) (rC X I c 3) (ix4 j 0 r h) = _; pointwise [k0_pay19, k0_pay13]

/-- What comes back in a slot is what was sent there, times the matrix of the slot's device. -/
theorem back_at (j : Fin 32) (s : Fin 4) (r : Fin 40) (h : Fin 512) :
    zB X I W c (ix4 j s r h) = ∑ k : Fin 256, sB X I c (ix4 j s r k) * W (peer c j) (ix3 s k h) := by
  show yE X I W (peer c j) s (ix4 (rev j) 0 r h) = _
  rw [expert_at]
  refine Finset.sum_congr rfl fun k _ => congrArg (· * _) ?_
  show sB X I (peer (peer c j) (rev j)) (ix4 (rev (rev j)) s r k) = _
  rw [peer_rev, rev_rev]

theorem owner_peer (e : Nat) (he : e < 128) : peer c ⟨(e / 4 + 63 - c.val) % 32, Nat.mod_lt _ (by norm_num)⟩ = (⟨e / 4, by omega⟩ : Fin 32) := by
  have hc := c.isLt
  change c.val < 32 at hc
  apply Fin.ext
  show (c.val + 1 + (e / 4 + 63 - c.val) % 32) % 32 = e / 4
  omega

/-- The result at a token: its row times its expert's matrix, or zero. -/
theorem out_at (hI : ∀ t : Fin 1024, num (N := 1024) (I c) t.val < 128)
    (hr : ∀ t : Fin 1024, cnt (N := 1024) (I c) (num (N := 1024) (I c) t.val) t.val < 40) (t : Fin 1024) (h : Fin 512) :
    outB X I W c (ix2 t h)
      = Scalar.select (k0_pay12 (k0_pay5 (I c)) (k0_pay11 (meW c) (k0_pay3 (I c)) (hC I c)) (ix2 t 0))
          (∑ k : Fin 256, X c (ix2 t k) * W (⟨num (N := 1024) (I c) t.val / 4, by have := hI t; show _ < 32; omega⟩ : Fin 32)
            (ix3 ⟨num (N := 1024) (I c) t.val % 4, Nat.mod_lt _ (by norm_num)⟩ k h)) (0 : EReal) := by
  have h1 : outB X I W c = k0_pay22 (placeW (I c) c) (k0_pay12 (k0_pay5 (I c)) (k0_pay11 (meW c) (k0_pay3 (I c)) (hC I c)))
      (zB X I W c) := by rw [outB, pay2_eq]; rfl
  have hs : sB X I c = k0_pay9 (F := Ideal) (X c) (k0_pay5 (I c)) (k0_pay6 (I c)) (k0_pay7 (meW c) (I c)) 1#32 := by
    rw [sB, pay1_eq, pay2_eq]
  rw [h1, picked_at (I c) c hI hr _ _ t ⟨(num (N := 1024) (I c) t.val / 4 + 63 - c.val) % 32, Nat.mod_lt _ (by norm_num)⟩
    ⟨num (N := 1024) (I c) t.val % 4, Nat.mod_lt _ (by norm_num)⟩ ⟨_, hr t⟩ h rfl, back_at, owner_peer c _ (hI t)]
  refine congrArg (fun y => Scalar.select _ y (0 : EReal)) (Finset.sum_congr rfl fun k _ => congrArg (· * _) ?_)
  rw [hs]
  exact sent_at (I c) c hI hr (X c) t _ _ _ k rfl

end Held

end Cert.Moe
-- ==== Proof.Accept.lean ====
/-
# Which tokens are within capacity

A device adds up the histograms of the devices before it (`before_at`), picks the entry of the token's expert and adds
the token's rank among its own: the comparison with 204 is one of natural numbers (`accept_at`). Over the whole column
of routes, of which device `c` holds the positions from `1024 * c`, that sum is the number of earlier tokens of the
same expert (`earlier_eq`).
-/
module

public import proofs.«01_k».proof.Proof.Moved

@[expose] public section

noncomputable section

namespace Cert.Moe

open Cert.KernelIdeal Cert.KernelIdeal.Gen
open Idealize.ShloMosaic

theorem sum_nat {ι : Type} (s : Finset ι) (f : ι → Nat) :
    (∑ i ∈ s, ((f i : ℝ) : EReal)) = (((∑ i ∈ s, f i : Nat) : ℝ) : EReal) := by
  classical
  induction s using Finset.induction_on with
  | empty => simp
  | insert a s ha ih => rw [Finset.sum_insert ha, Finset.sum_insert ha, ih, ← EReal.coe_add, ← Nat.cast_add]

theorem capacity_real : Ideal.ofBits .f32 0x434C0000#32 = ((204 : ℝ) : EReal) := by
  simp [Ideal.ofBits, Ideal.ieee, -EReal.coe_mul]; norm_num

theorem real_lt {a b : Nat} : ((a : ℝ) : EReal) + ((b : ℝ) : EReal) < ((204 : ℝ) : EReal) ↔ a + b < 204 := by
  rw [← EReal.coe_add, EReal.coe_lt_coe_iff, ← Nat.cast_add]
  constructor
  · intro h; exact_mod_cast h
  · intro h; exact_mod_cast h

/-- One entry of the masked histograms: it counts where the row belongs to a device before this one. -/
theorem masked_at (c : Dev nD) (r : Fin 31) {n : Nat} (hn : n < 2 ^ 31) :
    (FloatOps.sitofp (F := Ideal) FTy.f32 (Scalar.select (IntOp.cmpi .sge (BitVec.ofNat 32 r.val) (Scalar.subi 31#32 (meW c)))
      (BitVec.ofNat 32 n) 0#32) : EReal) = (((if 31 ≤ r.val + c.val then n else 0 : Nat) : ℝ) : EReal) := by
  have hc := c.isLt
  change c.val < 32 at hc
  have hs : Scalar.subi 31#32 (meW c) = BitVec.ofNat 32 (31 - c.val) := by revert c; decide +kernel
  have hrl := r.isLt
  rw [hs, WordCmp.cmpi_sge_ofNat (by omega) (by omega)]
  by_cases h : 31 ≤ r.val + c.val
  · rw [if_pos h, decide_eq_true (by omega : 31 - c.val ≤ r.val)]
    exact real_word hn
  · rw [if_neg h, decide_eq_false (by omega : ¬ 31 - c.val ≤ r.val)]
    exact real_word (n := 0) (by norm_num)

section Held

variable (I : Dev nD → Vec Ideal S1024x1 .i32) (c : Dev nD)

/-- The tokens for an expert on the devices before `c`. -/
def beforeN (e : Nat) : Nat := ∑ r : Fin 31, if 31 ≤ r.val + c.val then cnt (N := 1024) (I (peer c (slot r))) e 1024 else 0

theorem hC_at (r : Fin 31) (e : Fin 128) : hC I c (ix2 r e) = BitVec.ofNat 32 (cnt (N := 1024) (I (peer c (slot r))) e.val 1024) :=
  hist_at (I (peer c (slot r))) e

/-- The sum over the devices before this one, for the token's expert. -/
theorem before_at (t : Fin 1024) (h : num (N := 1024) (I c) t.val < 128) :
    k0_pay11 (F := Ideal) (meW c) (k0_pay3 (I c)) (hC I c) (ix1 t) = ((beforeN I c (num (N := 1024) (I c) t.val) : ℝ) : EReal) := by
  pointwise [k0_pay11]
  refine (Finset.sum_congr rfl fun e _ => ?_).trans
    ((sum_pick (fun e : Fin 128 => num (N := 1024) (I c) t.val = e.val) (fun e => ((beforeN I c e.val : ℝ) : EReal)) ⟨_, h⟩ rfl
      fun e he => Fin.ext he.symm))
  rw [hot_at]
  refine congrArg (fun z : EReal => (if num (N := 1024) (I c) t.val = e.val then (1 : EReal) else 0) * z) ?_
  rw [beforeN, ← sum_nat]
  refine Finset.sum_congr rfl fun r _ => ?_
  rw [hC_at]
  exact masked_at c r (lt_of_le_of_lt (Nat.count_le _) (by norm_num))

/-- A token is accepted where the earlier tokens for its expert are fewer than 204. -/
theorem accept_at (t : Fin 1024) (h : num (N := 1024) (I c) t.val < 128) :
    k0_pay12 (F := Ideal) (k0_pay5 (I c)) (k0_pay11 (meW c) (k0_pay3 (I c)) (hC I c)) (ix2 t 0)
      = BitVec.ofBool (decide (beforeN I c (num (N := 1024) (I c) t.val)
          + cnt (N := 1024) (I c) (num (N := 1024) (I c) t.val) t.val < 204)) := by
  pointwise [k0_pay12]
  refine congrArg BitVec.ofBool (decide_eq_decide.mpr ?_)
  have ht := t.isLt
  have hcnt := cnt_le (N := 1024) (I c) (num (N := 1024) (I c) t.val) t.val
  rw [before_at I c t h, rank_at, capacity_real]
  refine Iff.trans (iff_of_eq (congrArg (fun z => _ + z < _) (real_word (n := cnt (N := 1024) (I c) (num (N := 1024) (I c) t.val) t.val)
    (by omega)))) ?_
  exact real_lt

/-! ## The whole column -/

variable (V : IVec ⟨2, ![32768, 1]⟩ 32) (hV : ∀ (d : Dev nD) (k : Nat), k < 1024 → num (N := 1024) (I d) k = num V (1024 * d.val + k))

include hV

theorem cnt_block (d : Dev nD) (e n : Nat) (hn : n ≤ 1024) :
    cnt V e (1024 * d.val + n) = cnt V e (1024 * d.val) + cnt (N := 1024) (I d) e n := by
  rw [cnt, cnt, cnt, Nat.count_add]
  refine congrArg (_ + ·) (Routing.count_congr_of_lt n fun k hk => ?_)
  rw [hV d k (by omega)]

/-- The tokens before a device's own are those of the devices before it. -/
theorem cnt_blocks (e : Nat) : ∀ n, n ≤ 32 → cnt V e (1024 * n) = ∑ d ∈ Finset.range n, if h : d < 32 then cnt (N := 1024) (I (⟨d, h⟩ : Fin 32)) e 1024 else 0
  | 0, _ => by simp [cnt]
  | n + 1, h => by
    rw [Finset.sum_range_succ, ← cnt_blocks e n (by omega), dif_pos (by omega : n < 32)]
    exact cnt_block I V hV (⟨n, by omega⟩ : Fin 32) e 1024 le_rfl

/-- The sum over the accepted rows of the histograms runs over the devices before `c`. -/
theorem before_eq (e : Nat) : beforeN I c e = cnt V e (1024 * c.val) := by
  have hc := c.isLt
  change c.val < 32 at hc
  rw [cnt_blocks I V hV e c.val (by omega), beforeN, ← Finset.sum_filter]
  refine Finset.sum_bij (fun r _ => r.val + c.val - 31) (fun r hr => ?_) (fun r hr s hs h => ?_) (fun d hd => ?_) (fun r hr => ?_)
  · have hr := (Finset.mem_filter.mp hr).2
    have := r.isLt
    rw [Finset.mem_range]; omega
  · have hr := (Finset.mem_filter.mp hr).2
    have hs := (Finset.mem_filter.mp hs).2
    apply Fin.ext; change r.val + c.val - 31 = s.val + c.val - 31 at h; omega
  · have hd := Finset.mem_range.mp hd
    exact ⟨⟨d + 31 - c.val, by omega⟩, Finset.mem_filter.mpr ⟨Finset.mem_univ _, by show 31 ≤ d + 31 - c.val + c.val; omega⟩, by show d + 31 - c.val + c.val - 31 = d; omega⟩
  · have hr := (Finset.mem_filter.mp hr).2
    have hrl := r.isLt
    rw [dif_pos (by omega)]
    have hp : peer c (slot r) = (⟨r.val + c.val - 31, by omega⟩ : Fin 32) := by
      apply Fin.ext
      show (c.val + 1 + r.val) % 32 = r.val + c.val - 31
      omega
    rw [hp]

/-- What the kernel compares with the capacity is the token's rank among all tokens of its expert. -/
theorem earlier_eq (t : Fin 1024) (e : Nat) :
    beforeN I c e + cnt (N := 1024) (I c) e t.val = cnt V e (1024 * c.val + t.val) := by
  rw [before_eq I c V hV, ← cnt_block I V hV c e t.val t.isLt.le]

end Held

end Cert.Moe
-- ==== Proof.Whole.lean ====
/-
# The reference, read at a token

The reference's result is cut into the parts it is composed of: the one-hot matrix, its running sums, the rank of a
token, its route and its matrix. Each is read at an index: the running sum counts the earlier tokens of an expert
(`seen_at`), the one-hot row picks the token's own expert out of them (`order_at`), and the gather takes the expert's
matrix (`table_at`). So the result at a token is its row times its expert's matrix where fewer than 204 tokens of the
expert come before it, and zero elsewhere (`ref_at`).
-/
module

public import proofs.«01_k».proof.Proof.Words
public import proofs.«01_k».proof.Proof.Gen.ReferenceIdeal.Run
public import Idealize.ShloMosaic.Lib.Routing.Ops

@[expose] public section

noncomputable section

namespace Cert.Moe.Ref

open Cert.ReferenceIdeal Cert.ReferenceIdeal.Gen
open Idealize.ShloMosaic

/-! ## A running sum down a column -/

/-- The running sum down the columns of a matrix of words: entry `(j, e)` is the sum of the column's entries up to `j`. -/
theorem running_sum {N M : Nat} (x : IVec ⟨2, ![N + 1, M]⟩ 32) (f : Nat → Nat) (e : Fin M)
    (hx : ∀ i : Fin (N + 1), x (ix2 i e) = BitVec.ofNat 32 (f i.val)) (init : IVec ⟨0, ![]⟩ 32) (hinit : ∀ i, init i = 0#32)
    (h : (⟨2, ![N + 1, M]⟩ : Shape).ReduceWindows (![N + 1, 1] : Fin 2 → Nat) ![1, 1] ![N, 0] ![0, 0] ⟨2, ![N + 1, M]⟩)
    (hu : 0 < (⟨0, ![]⟩ : Shape).numel) (j : Fin (N + 1)) :
    Host.reduceWindow IntOp.addi ![N + 1, 1] ![1, 1] ![N, 0] ![0, 0] x init h hu (ix2 j e)
      = BitVec.ofNat 32 ((List.range (j.val + 1)).map f).sum := by
  have hj := j.isLt
  have hn : (⟨2, ![N + 1, 1]⟩ : Shape).numel = N + 1 := by
    show ∏ a : Fin 2, (![N + 1, 1] : Fin 2 → Nat) a = N + 1
    simp [Fin.prod_univ_two]
  have hrow : ∀ n : Fin (⟨2, ![N + 1, 1]⟩ : Shape).numel, ((⟨2, ![N + 1, 1]⟩ : Shape).rowMajor.symm n 0).val = n.val
      ∧ ((⟨2, ![N + 1, 1]⟩ : Shape).rowMajor.symm n 1).val = 0 := fun n => by
    have h0 := Shape.rowMajor_val_two ((⟨2, ![N + 1, 1]⟩ : Shape).rowMajor.symm n)
    rw [Equiv.apply_symm_apply] at h0
    have h1 : ((⟨2, ![N + 1, 1]⟩ : Shape).rowMajor.symm n 1).val < 1 := ((⟨2, ![N + 1, 1]⟩ : Shape).rowMajor.symm n 1).isLt
    have h2 : (![N + 1, 1] : Fin 2 → Nat) 1 = 1 := rfl
    simp only [h2, Nat.mul_one] at h0
    omega
  unfold Host.reduceWindow
  refine (Routing.foldl_addi_ofNat _ _ (fun n => if N ≤ j.val + n.val then f (j.val + n.val - N) else 0) (fun n _ => ?_) _ 0
    (hinit _)).trans ?_
  · obtain ⟨h0, h1⟩ := hrow n
    have hnl : n.val < N + 1 := (n.cast hn).isLt
    have hp : (∀ a : Fin 2, (![N, 0] : Fin 2 → Nat) a
        ≤ (ix2 j e a).val * (![1, 1] : Fin 2 → Nat) a + ((⟨2, ![N + 1, 1]⟩ : Shape).rowMajor.symm n a).val
        ∧ (ix2 j e a).val * (![1, 1] : Fin 2 → Nat) a + ((⟨2, ![N + 1, 1]⟩ : Shape).rowMajor.symm n a).val - (![N, 0] : Fin 2 → Nat) a
          < (![N + 1, M] : Fin 2 → Nat) a) ↔ N ≤ j.val + n.val := by
      rw [Fin.forall_fin_two]
      show (N ≤ j.val * 1 + ((⟨2, ![N + 1, 1]⟩ : Shape).rowMajor.symm n 0).val
          ∧ j.val * 1 + ((⟨2, ![N + 1, 1]⟩ : Shape).rowMajor.symm n 0).val - N < N + 1)
        ∧ (0 ≤ e.val * 1 + ((⟨2, ![N + 1, 1]⟩ : Shape).rowMajor.symm n 1).val
          ∧ e.val * 1 + ((⟨2, ![N + 1, 1]⟩ : Shape).rowMajor.symm n 1).val - 0 < M) ↔ N ≤ j.val + n.val
      have he := e.isLt
      rw [h0, h1]
      omega
    by_cases hle : N ≤ j.val + n.val
    · rw [if_pos hle, ← hx ⟨j.val + n.val - N, by omega⟩]
      refine (dif_pos (hp.mpr hle)).trans (congrArg x (funext fun a => Fin.ext ?_))
      match a with
      | ⟨0, _⟩ =>
        show j.val * 1 + ((⟨2, ![N + 1, 1]⟩ : Shape).rowMajor.symm n 0).val - N = j.val + n.val - N
        rw [h0, Nat.mul_one]
      | ⟨1, _⟩ =>
        show e.val * 1 + ((⟨2, ![N + 1, 1]⟩ : Shape).rowMajor.symm n 1).val - 0 = e.val
        rw [h1]; omega
    · rw [if_neg hle]
      exact (dif_neg fun hh => hle (hp.mp hh)).trans (hinit _)
  · rw [Nat.zero_add, Routing.map_finRange_val _ (fun w => if N ≤ j.val + w then f (j.val + w - N) else 0), hn,
      Routing.sum_window f N j.val (by omega)]

/-! ## The parts of the reference -/

/-- The one-hot matrix of the routes. -/
def refHot (V : IVec S32768x1 32) : IVec S32768x128 32 :=
  extui 32 (cmpi .eq (broadcastInDim S32768x128 ![0, 1] bcast_S32768x1_S32768x128_0_1 V)
    (broadcastInDim S32768x128 ![0, 1] bcast_S1x128_S32768x128_0_1 (broadcastInDim S1x128 ![1] bcast_S128_S1x128_1 (iotaInDim S128 32 0)))) natLt_1_32

/-- Its running sums. -/
def refSeen (V : IVec S32768x1 32) : IVec S32768x128 32 :=
  Host.reduceWindow IntOp.addi ![32768, 1] ![1, 1] ![32767, 0] ![0, 0] (refHot V)
    (broadcastInDim S_ ![] bcast_S_S_ (constantI S_ 32 0#32)) reduceWindows_S32768x128_S32768x128_w32768s1p32767_0_w1s1p0_0 h_S_

/-- The rank of a token among those of its expert. -/
def refRank (V : IVec S32768x1 32) : IVec S32768x1 32 :=
  broadcastInDim S32768x1 ![0] bcast_S32768_S32768x1_0 (Host.reduce IntOp.addi (muli (refHot V) (subi (refSeen V) (refHot V)))
    (constantI S_ 32 0#32) reducesTo_S32768x128_S32768_d1 h_S_)

/-- The route the table is read at. -/
def refRoute (V : IVec S32768x1 32) : IVec S32768x1 32 :=
  broadcastInDim S32768x1 ![0] bcast_S32768_S32768x1_0 (select (cmpi .slt (shapeCast _ V shapeCasts_S32768x1_S32768)
    (broadcastInDim S32768 ![] bcast_S_S32768 (constantI S_ 32 0#32)))
    (addi (shapeCast _ V shapeCasts_S32768x1_S32768) (broadcastInDim S32768 ![] bcast_S_S32768 (constantI S_ 32 128#32)))
    (shapeCast _ V shapeCasts_S32768x1_S32768))

/-- Each token's matrix. -/
def refTable (W : FVec Ideal S128x256x512 .bf16) (V : IVec S32768x1 32) : FVec Ideal S32768x256x512 .f32 :=
  Host.gather gather_S128x256x512_S32768x1_S32768x256x512_12_0_n_n_0_1_1256512 (extf .f32 W bitsLt_bf16_f32) (refRoute V)

/-- The reference's result. -/
def refOut (X : FVec Ideal S32768x256 .bf16) (V : IVec S32768x1 32) (W : FVec Ideal S128x256x512 .bf16) : FVec Ideal S32768x512 .f32 :=
  select (broadcastInDim S32768x512 ![0, 1] bcast_S32768x1_S32768x512_0_1 (cmpi .slt (refRank V)
      (broadcastInDim S32768x1 ![] bcast_S_S32768x1 (constantI S_ 32 204#32))))
    (Host.dotGeneral dot_S32768x256_S32768x256x512_S32768x512_1_1_n_2_0_0 none (extf .f32 X bitsLt_bf16_f32) (refTable W V))
    (broadcastInDim S32768x512 ![] bcast_S_S32768x512 (id (constant S_ .f32 0x00000000#32)))

/-! ## The parts at a token -/

section Tokens

variable (V : IVec S32768x1 32)

theorem bit_word (b : BitVec 1) : b.setWidth 32 = BitVec.ofNat 32 (if b = 1#1 then 1 else 0) := by
  revert b; decide

theorem hot_at (i : Fin 32768) (e : Fin 128) :
    refHot V (ix2 i e) = BitVec.ofNat 32 (if num (N := 32768) V i.val = e.val then 1 else 0) := by
  pointwise [refHot]
  rw [bit_word]
  exact congrArg (BitVec.ofNat 32) (if_congr (eq_num_ofNat (N := 32768) V i (by omega)) rfl rfl)

theorem seen_at (i : Fin 32768) (e : Fin 128) : refSeen V (ix2 i e) = BitVec.ofNat 32 (cnt (N := 32768) V e.val (i.val + 1)) := by
  refine (running_sum (N := 32767) (M := 128) (refHot V) (fun k => if num (N := 32768) V k = e.val then 1 else 0) e
    (fun k => hot_at V k e) _ (fun _ => rfl) _ _ i).trans ?_
  rw [Routing.sum_map_ite]
  rfl

theorem order_at (i : Fin 32768) (h : num (N := 32768) V i.val < 128) :
    refRank V (ix2 i 0) = BitVec.ofNat 32 (cnt (N := 32768) V (num (N := 32768) V i.val) i.val) := by
  pointwise [refRank]
  refine Eq.trans (b := ∑ e : Fin 128, IntOp.muli (refHot V (ix2 i e)) (IntOp.subi (refSeen V (ix2 i e)) (refHot V (ix2 i e))))
    (Finset.sum_eq_fold ..).symm ?_
  rw [Finset.sum_eq_single (⟨_, h⟩ : Fin 128) (fun e _ he => ?_) (fun hn => absurd (Finset.mem_univ _) hn)]
  · rw [hot_at, seen_at, if_pos rfl, cnt, Nat.count_succ, if_pos rfl]
    show BitVec.ofNat 32 1 * (BitVec.ofNat 32 (_ + 1) - BitVec.ofNat 32 1) = _
    rw [BitVec.ofNat_add, BitVec.add_sub_cancel]
    exact BitVec.one_mul _
  · rw [hot_at, if_neg fun hh => he (Fin.ext hh.symm)]
    exact BitVec.zero_mul

theorem route_at (i : Fin 32768) (h : num (N := 32768) V i.val < 128) : refRoute V (ix2 i 0) = BitVec.ofNat 32 (num (N := 32768) V i.val) := by
  pointwise [refRoute]
  rw [num_word (N := 32768) V i, WordCmp.cmpi_slt_ofNat (b := 0) (by omega) (by omega)]
  rfl

theorem table_at (W : FVec Ideal S128x256x512 .bf16) (i : Fin 32768) (k : Fin 256) (l : Fin 512) (h : num (N := 32768) V i.val < 128) :
    refTable W V (ix3 i k l) = W (ix3 ⟨_, h⟩ k l) := by
  have hs : (gather_S128x256x512_S32768x1_S32768x256x512_12_0_n_n_0_1_1256512).siIdx (ix3 i k l) ⟨0, Nat.one_pos⟩ = ix2 i 0 := by
    funext a
    match a with
    | ⟨0, _⟩ => rfl
    | ⟨1, _⟩ => rfl
  refine congrArg W (funext fun a => Fin.ext ?_)
  match a with
  | ⟨0, _⟩ =>
    show min (refRoute V ((gather_S128x256x512_S32768x1_S32768x256x512_12_0_n_n_0_1_1256512).siIdx (ix3 i k l) ⟨0, Nat.one_pos⟩)).toInt.toNat
      (128 - 1) + 0 + 0 = num (N := 32768) V i.val
    rw [hs, route_at V i h, WordArith.toInt_ofNat_small _ (by omega)]
    omega
  | ⟨1, _⟩ => show 0 + 0 + k.val = k.val; omega
  | ⟨2, _⟩ => show 0 + 0 + l.val = l.val; omega

end Tokens

/-- The reference's result at a token. -/
theorem ref_at (X : FVec Ideal S32768x256 .bf16) (V : IVec S32768x1 32) (W : FVec Ideal S128x256x512 .bf16) (i : Fin 32768) (l : Fin 512)
    (h : num (N := 32768) V i.val < 128) :
    refOut X V W (ix2 i l)
      = if cnt (N := 32768) V (num (N := 32768) V i.val) i.val < 204 then (∑ k : Fin 256, X (ix2 i k) * W (ix3 ⟨_, h⟩ k l)) else (0 : EReal) := by
  pointwise [refOut]
  have hi := i.isLt
  have hc := cnt_le (N := 32768) V (num (N := 32768) V i.val) i.val
  rw [order_at V i h, WordCmp.cmpi_slt_ofNat (by omega) (by omega), Finset.sum_congr rfl fun k _ => congrArg (X (ix2 i k) * ·) (table_at V W i k l h)]
  have hz : (id (constant (F := Ideal) S_ .f32 0x00000000#32) ix0 : EReal) = 0 := by
    show Ideal.ofBits .f32 0x00000000#32 = 0
    simp [Ideal.ofBits, Ideal.ieee]
  rw [hz]
  by_cases hlt : cnt (N := 32768) V (num (N := 32768) V i.val) i.val < 204
  · rw [if_pos hlt, decide_eq_true hlt]; rfl
  · rw [if_neg hlt, decide_eq_false hlt]; rfl

end Cert.Moe.Ref
-- ==== Proof.Few.lean ====
/-
# What the precondition says

One device's blocks satisfy it where every token of the device is routed to one of the 128 experts and no expert is
asked for by more than 40 of the device's tokens. So a token's rank among those of its expert on the device is below 40
(`rank_few`).
-/
module

public import proofs.«01_k».proof.Proof.Words
public import proofs.«01_k».proof.Pre_few_per_expert_KernelIdeal
public import proofs.«01_k».proof.Pre_few_per_expert_ReferenceIdeal
public import Idealize.ShloMosaic.Lib.ReduceAll
public import Idealize.ShloMosaic.Lib.StableHlo.Predicate
public import Idealize.ShloMosaic.Lib.Routing.Ops

@[expose] public section

noncomputable section

namespace Cert.Moe

open Idealize.ShloMosaic

instance few_facts : Cert.Pre_few_per_expert_KernelIdeal.Facts :=
  ⟨by decide, by decide, by decide, by decide, by decide, by decide, by decide, by decide, by decide, by decide⟩

instance few_facts_whole : Cert.Pre_few_per_expert_ReferenceIdeal.Facts :=
  ⟨by decide, by decide, by decide, by decide, by decide, by decide, by decide, by decide, by decide, by decide⟩

section Meaning

open Cert.Pre_few_per_expert_KernelIdeal Cert.Pre_few_per_expert_KernelIdeal.Facts

variable (V : IVec S1024x1 32)

/-- The matrix of the bits that say which token is routed to which expert. -/
def fewHot : IVec S1024x128 1 :=
  cmpi .eq (broadcastInDim S1024x128 ![0, 1] bcast_S1024x1_S1024x128_0_1 V)
    (broadcastInDim S1024x128 ![0, 1] bcast_S1x128_S1024x128_0_1 (broadcastInDim S1x128 ![1] bcast_S128_S1x128_1 (iotaInDim S128 32 0)))

/-- The bits that say which tokens are routed to one of the experts. -/
def fewOk : IVec S1024x1 1 :=
  andi (cmpi .sge V (broadcastInDim S1024x1 ![] bcast_S_S1024x1 (constantI S_ 32 0#32)))
    (cmpi .slt V (broadcastInDim S1024x1 ![] bcast_S_S1024x1 (constantI S_ 32 128#32)))

/-- The number of the device's tokens for each expert. -/
def fewCount : IVec S128 32 :=
  Host.reduce IntOp.addi (extui 32 (fewHot V) natLt_1_32) (constantI S_ 32 0#32) reducesTo_S1024x128_S128_d0 h_S_

theorem fewHot_at (t : Fin 1024) (e : Fin 128) : fewHot V (ix2 t e) = 1#1 ↔ num (N := 1024) V t.val = e.val := by
  have h : fewHot V (ix2 t e) = IntOp.cmpi .eq (V (ix2 t 0)) (BitVec.ofNat 32 e.val) := by pointwise [fewHot]
  rw [h]
  exact eq_num_ofNat (N := 1024) V t (by omega)

theorem fewCount_at (e : Fin 128) : fewCount V (ix1 e) = BitVec.ofNat 32 (cnt (N := 1024) V e.val 1024) := by
  have hn := StableHlo.Predicate.toNat_reduce_count_rows (n := 1024) (m := 128) (by norm_num) (fewHot V) natLt_1_32
    reducesTo_S1024x128_S128_d0 h_S_ (ix1 e)
  refine BitVec.eq_of_toNat_eq ?_
  have hc := cnt_le (N := 1024) V e.val 1024
  rw [BitVec.toNat_ofNat, Nat.mod_eq_of_lt (by omega)]
  refine hn.trans ?_
  rw [cnt, ← Routing.card_filter_fin 1024 (fun k => num (N := 1024) V k = e.val)]
  exact congrArg Finset.card (Finset.filter_congr fun t _ => fewHot_at V t e)

variable {X : FVec Ideal S1024x256 .bf16} {R : FVec Ideal S256x128 .bf16} {V} {W : FVec Ideal S4x256x512 .bf16}

theorem few_both (h : fn (F := Ideal) X R V W = fun _ => 1#1) :
    Host.reduce IntOp.andi (fewOk V) (constantI S_ 1 1#1) reducesTo_S1024x1_S_d0_1 h_S_ ix0 = 1#1
    ∧ Host.reduce IntOp.andi (cmpi .sle (fewCount V) (broadcastInDim S128 ![] bcast_S_S128 (constantI S_ 32 40#32))) (constantI S_ 1 1#1)
        reducesTo_S128_S_d0 h_S_ ix0 = 1#1 :=
  IntOp.andi_eq_one.mp (congrFun h ix0)

instance : Subsingleton S_.Idx := ⟨fun _ _ => funext fun a => a.elim0⟩

/-- Every token is routed to one of the experts. -/
theorem routed (h : fn (F := Ideal) X R V W = fun _ => 1#1) (t : Fin 1024) : num (N := 1024) V t.val < 128 := by
  have ht := Host.reduce_andi_all _ _ _ _ _ (few_both h).1 (ix2 t 0)
  have he : fewOk V (ix2 t 0) = IntOp.andi (IntOp.cmpi .sge (V (ix2 t 0)) 0#32) (IntOp.cmpi .slt (V (ix2 t 0)) (BitVec.ofNat 32 128)) := rfl
  rw [he, WordCmp.andi_sge_zero_slt_ofNat (by norm_num), ofBool_one] at ht
  rw [num_fin]; exact ht

/-- No expert has more than 40 tokens of the device. -/
theorem few (h : fn (F := Ideal) X R V W = fun _ => 1#1) (e : Fin 128) : cnt (N := 1024) V e.val 1024 ≤ 40 := by
  have ht := Host.reduce_andi_all _ _ _ _ _ (few_both h).2 (ix1 e)
  have he : cmpi .sle (fewCount V) (broadcastInDim S128 ![] bcast_S_S128 (constantI S_ 32 40#32)) (ix1 e)
      = IntOp.cmpi .sle (fewCount V (ix1 e)) (BitVec.ofNat 32 40) := rfl
  have hc := cnt_le (N := 1024) V e.val 1024
  rw [he, fewCount_at, WordCmp.cmpi_sle_ofNat_eq_one_iff (by omega) (by norm_num)] at ht
  exact ht

/-- A token's rank among those of its expert on the device. -/
theorem rank_few (h : fn (F := Ideal) X R V W = fun _ => 1#1) (t : Fin 1024) :
    cnt (N := 1024) V (num (N := 1024) V t.val) t.val < 40 :=
  lt_of_lt_of_le (cnt_lt V t.isLt) (few h ⟨_, routed h t⟩)

end Meaning

end Cert.Moe
-- ==== Proof.Same.lean ====
/-
# The kernel's result is its block of the reference's

Each device's arguments are its blocks of the whole arrays. So a position of a device's column of routes is a position of
the whole column (`num_block`), the tokens before it on its device and on the devices before are the tokens before it in
the whole, and its expert's matrix is held by the device that owns the expert. With these the two results, read at a
token, are the same sum (`same_at`).
-/
module

public import proofs.«01_k».proof.Proof.Frames
public import proofs.«01_k».proof.Proof.Moved
public import proofs.«01_k».proof.Proof.Accept
public import proofs.«01_k».proof.Proof.Whole
public import proofs.«01_k».proof.Proof.Few
public import Idealize.ShloMosaic.Lib.Layout

@[expose] public section

noncomputable section

namespace Cert.Moe

open Idealize.ShloMosaic Idealize.SL.Sem
open Cert.KernelIdeal Cert.KernelIdeal.Gen

/-! ## The whole arrays and their blocks -/

theorem num_block (c : Fin 32) (V : IVec ⟨2, ![32768, 1]⟩ 32) (k : Nat) (hk : k < 1024) :
    num (N := 1024) (Layout.block ⟨2, ![1024, 1]⟩ ⟨2, ![32768, 1]⟩ 0 32 c V) k = num (N := 32768) V (1024 * c.val + k) := by
  have hc := c.isLt
  rw [num, num, dif_pos hk, dif_pos (by omega)]
  refine congrArg (fun i => (V i).toNat) (funext fun a => Fin.ext ?_)
  match a with
  | ⟨0, _⟩ => show c.val * 1024 + k = 1024 * c.val + k; omega
  | ⟨1, _⟩ => rfl

theorem row_block {α : Type} {n : Nat} (c : Fin 32) (X : (⟨2, ![32768, n]⟩ : Shape).Idx → α) (h : Layout.Tiles ⟨2, ![1024, n]⟩ ⟨2, ![32768, n]⟩ 0 32)
    (t : Fin 1024) (k : Fin n) (i : Fin 32768) (hi : i.val = 1024 * c.val + t.val) :
    Layout.block ⟨2, ![1024, n]⟩ ⟨2, ![32768, n]⟩ 0 32 c X h (ix2 t k) = X (ix2 i k) := by
  refine congrArg X (funext fun a => Fin.ext ?_)
  match a with
  | ⟨0, _⟩ => show c.val * 1024 + t.val = i.val; omega
  | ⟨1, _⟩ => rfl

theorem expert_block {α : Type} (e : Nat) (he : e < 128) (W : (⟨3, ![128, 256, 512]⟩ : Shape).Idx → α)
    (h : Layout.Tiles ⟨3, ![4, 256, 512]⟩ ⟨3, ![128, 256, 512]⟩ 0 32) (k : Fin 256) (l : Fin 512) :
    Layout.block ⟨3, ![4, 256, 512]⟩ ⟨3, ![128, 256, 512]⟩ 0 32 (⟨e / 4, by omega⟩ : Fin 32) W h (ix3 ⟨e % 4, Nat.mod_lt _ (by norm_num)⟩ k l)
      = W (ix3 ⟨e, he⟩ k l) := by
  refine congrArg W (funext fun a => Fin.ext ?_)
  match a with
  | ⟨0, _⟩ => show e / 4 * 4 + e % 4 = e; omega
  | ⟨1, _⟩ => rfl
  | ⟨2, _⟩ => rfl

/-- The kernel's result at a token of a device is the reference's at the token's position in the whole. -/
theorem same_at (X : FVec Ideal ⟨2, ![32768, 256]⟩ .bf16) (V : IVec ⟨2, ![32768, 1]⟩ 32) (W : FVec Ideal ⟨3, ![128, 256, 512]⟩ .bf16)
    (xs : Dev nD → FVec Ideal ⟨2, ![1024, 256]⟩ .bf16) (is : Dev nD → IVec ⟨2, ![1024, 1]⟩ 32) (ws : Dev nD → FVec Ideal ⟨3, ![4, 256, 512]⟩ .bf16)
    (hx : ∀ c, xs c = Layout.block ⟨2, ![1024, 256]⟩ ⟨2, ![32768, 256]⟩ 0 32 c X)
    (hi : ∀ c, is c = Layout.block ⟨2, ![1024, 1]⟩ ⟨2, ![32768, 1]⟩ 0 32 c V)
    (hw : ∀ c, ws c = Layout.block ⟨3, ![4, 256, 512]⟩ ⟨3, ![128, 256, 512]⟩ 0 32 c W) (c : Dev nD)
    (hI : ∀ t : Fin 1024, num (N := 1024) (is c) t.val < 128)
    (hr : ∀ t : Fin 1024, cnt (N := 1024) (is c) (num (N := 1024) (is c) t.val) t.val < 40) (t : Fin 1024) (l : Fin 512)
    (i : Fin 32768) (hit : i.val = 1024 * c.val + t.val) :
    outB (F := Ideal) xs is ws c (ix2 t l) = Ref.refOut X V W (ix2 i l) := by
  have hV : ∀ (d : Dev nD) (k : Nat), k < 1024 → num (N := 1024) (is d) k = num (N := 32768) V (1024 * d.val + k) := fun d k hk => by
    rw [hi d]; exact num_block d V k hk
  have hn : num (N := 1024) (is c) t.val = num (N := 32768) V i.val := by rw [hV c t.val t.isLt, hit]
  have hv : num (N := 32768) V i.val < 128 := hn ▸ hI t
  have hcnt : cnt (N := 32768) V (num (N := 1024) (is c) t.val) (1024 * c.val + t.val) = cnt (N := 32768) V (num (N := 32768) V i.val) i.val := by
    rw [hn, hit]
  have hs : (∑ k : Fin 256, xs c (ix2 t k) * ws (⟨num (N := 1024) (is c) t.val / 4, by have := hI t; show _ < 32; omega⟩ : Fin 32)
        (ix3 ⟨num (N := 1024) (is c) t.val % 4, Nat.mod_lt _ (by norm_num)⟩ k l))
      = ∑ k : Fin 256, X (ix2 i k) * W (ix3 ⟨_, hv⟩ k l) := by
    refine Finset.sum_congr rfl fun k _ => ?_
    rw [hx, hw, row_block c X _ t k i hit]
    refine congrArg (fun z : EReal => X (ix2 i k) * z) ((expert_block _ (hI t) W _ k l).trans ?_)
    exact congrArg (fun e : Fin 128 => W (ix3 e k l)) (Fin.ext hn)
  rw [out_at xs is ws c hI hr t l, accept_at is c t (hI t), earlier_eq is c V hV t, Ref.ref_at X V W i l hv, hcnt, hs]
  by_cases hlt : cnt (N := 32768) V (num (N := 32768) V i.val) i.val < 204
  · rw [if_pos hlt, decide_eq_true hlt]; rfl
  · rw [if_neg hlt, decide_eq_false hlt]; rfl

/-! ## The runs -/

variable (m : (ℓ : Loc nD τ sig) → Buf (Elt Ideal) ℓ)

theorem xIn_eq (c : Dev nD) : xIn m c = m ((c.tc : Thread nD τ).loc main_arg0) :=
  Memref.read_access_unit_zero (Elt Ideal) main_arg0 (funext fun _ => Nat.zero_mul _) _ _
theorem iIn_eq (c : Dev nD) : iIn m c = m ((c.tc : Thread nD τ).loc main_arg2) :=
  Memref.read_access_unit_zero (Elt Ideal) main_arg2 (funext fun _ => Nat.zero_mul _) _ _
theorem wIn_eq (c : Dev nD) : wIn m c = m ((c.tc : Thread nD τ).loc main_arg3) :=
  Memref.read_access_unit_zero (Elt Ideal) main_arg3 (funext fun _ => Nat.zero_mul _) _ _
theorem out_eq (c : Dev nD) : final m c (3 : Fin 4) = result m c :=
  (Memref.read_access_unit_zero (Elt Ideal) main_v1 (funext fun _ => Nat.zero_mul _) _ _).symm.trans (final_o m c)

theorem algebraic : Cert.algebraic_KernelIdeal_ReferenceIdeal_pre_few_per_expert_KernelIdeal := by
  intro m g m' g' hpre hargs
  refine ⟨Ref.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun r h c => ⟨(((h.1 c).1 (3 : Fin 4)).trans (out_eq m c)).trans ?_, args_kept m r h c⟩) (run_main m g)
    have hi : ∀ d, iIn m d = m ((d.tc : Thread nD τ).loc main_arg2) := iIn_eq m
    funext j
    rw [eq_ix2 (n0 := 1024) (n1 := 512) j]
    have hc := c.isLt
    change c.val < 32 at hc
    have hI : ∀ t : Fin 1024, num (N := 1024) (iIn m c) t.val < 128 := fun t => by rw [hi]; exact routed (hpre c) t
    have hr : ∀ t : Fin 1024, cnt (N := 1024) (iIn m c) (num (N := 1024) (iIn m c) t.val) t.val < 40 := fun t => by
      rw [hi]; exact rank_few (hpre c) t
    have ht : (j 0).val < 1024 := (j 0).isLt
    refine (same_at _ _ _ (xIn m) (iIn m) (wIn m) (fun d => (xIn_eq m d).trans (hargs d).1) (fun d => (hi d).trans (hargs d).2.2.1)
      (fun d => (wIn_eq m d).trans (hargs d).2.2.2) c hI hr (j 0) (j 1) ⟨1024 * c.val + (j 0).val, by omega⟩ rfl).trans ?_
    exact (row_block (n := 512) c _ _ (j 0) (j 1) ⟨1024 * c.val + (j 0).val, by omega⟩ rfl).symm
  · exact (θ_run _ _ _).mono (fun r h => h 0) (Cert.ReferenceIdeal.Value.run m' g')

end Cert.Moe
-- ==== Proof.lean ====
/-
# The proof of the claim
-/
module

public import proofs.«01_k».proof.Defs
public import proofs.«01_k».proof.Proof.Same
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Cert.Moe.few_facts, Cert.Moe.few_facts_whole,
    Cert.Moe.frame_kernel, Cert.Moe.frame_ideal, fun m g _ => Cert.Moe.frame_ideal m g trivial, Cert.Moe.frame_reference,
    fun m g _ => Cert.Moe.frame_reference m g trivial, Cert.Moe.preserves, Cert.Moe.algebraic⟩

end Cert.Proof

end
